-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "no_pos" .f32 0xF149F2CA#32 ⊥
  ∧ IdealRules.named_const.Statement Cert.KernelIdeal.κ "no_neg" .f32 0x7149F2CA#32 ⊤
  ∧ IdealRules.named_const.Statement Cert.KernelIdeal.κ "some_pos" .f32 0xF0C9F2CA#32 ⊥
  ∧ IdealRules.named_const.Statement Cert.KernelIdeal.κ "some_neg" .f32 0x70C9F2CA#32 ⊤

def holds_KernelIdeal_near_pre_drawn [hKernelIdeal : Cert.KernelIdeal.Facts] [hPre_drawn : Cert.Pre_drawn.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v15))) = (fun _ => 1#1))

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts) (hPost_near : Cert.Post_near.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ holds_KernelIdeal_near_pre_drawn (hKernelIdeal := hKernelIdeal) (hPre_drawn := hPre_drawn) (hPost_near := hPost_near)
    ∧ algebraic_KernelIdeal_ReferenceIdeal_pre_drawn (hKernelIdeal := hKernelIdeal) (hReferenceIdeal := hReferenceIdeal) (hPre_drawn := hPre_drawn)
-- ==== Post_near.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S1 : Shape := ⟨1, ![1]⟩
abbrev S1x1 : Shape := ⟨2, ![1, 1]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x128_0 : S4096.BroadcastsInDim S4096x128 (![0] : Fin 1 → Fin S4096x128.rank)
  bcast_S_S4096x128 : S_.BroadcastsInDim S4096x128 (![] : Fin 0 → Fin S4096x128.rank)
  reducesTo_S4096_S_d0 : S4096.ReducesTo [0] S_
  dot_S4096x128_S128x4096_S4096x4096_1_0_0_1_n_n_wf : DotDims.WF S4096x128 S128x4096 S4096x4096 [1] [0] [0] [1] [] []
  gather_S4096x128_S4096x1_S4096x128_1_0_n_n_0_1_1128_wf : GatherDims.WF S4096x128 S4096x1 S4096x128 [1] [0] [] [0] [] 1 ![1, 128]

variable [Facts]

variable {F : FTy → Type} [FloatOps F]
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf

def fn_clip {F : FTy → Type} [FloatOps F] (arg0 : FVec F S4096x4096 .f32) (arg1 : FVec F S_ .f32) : FVec F S4096x4096 .f32 :=
  let v0 : FVec F S_ .f32 := id arg1
  let v1 : FVec F S4096x4096 .f32 := broadcastInDim S4096x4096 ![] bcast_S_S4096x4096 v0
  let v2 : FVec F S4096x4096 .f32 := maximumf v1 arg0
  v2

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_argmax {F : FTy → Type} [FloatOps F] (arg0 : FVec F S4096x4096 .f32) : IVec S4096 32 :=
  let v0 : IVec S4096x4096 32 := iotaInDim S4096x4096 32 1
  let cst : FVec F S_ .f32 := constant S_ .f32 0xFF800000#32
  let c : IVec S_ 32 := constantI S_ 32 0#32
  let v1_0 : FVec F S4096 .f32 := (fun x y u v j => (Host.argReduce reducer_argmax_f32_i32 x y u v reducesTo_S4096x4096_S4096_d1 h_S_ j).1) arg0 v0 cst c
  let v1_1 : IVec S4096 32 := (fun x y u v j => (Host.argReduce reducer_argmax_f32_i32 x y u v reducesTo_S4096x4096_S4096_d1 h_S_ j).2) arg0 v0 cst c
  v1_1

def fn_argmin {F : FTy → Type} [FloatOps F] (arg0 : FVec F S4096x4096 .f32) : IVec S4096 32 :=
  let v0 : IVec S4096x4096 32 := iotaInDim S4096x4096 32 1
  let cst : FVec F S_ .f32 := constant S_ .f32 0x7F800000#32
  let c : IVec S_ 32 := constantI S_ 32 0#32
  let v1_0 : FVec F S4096 .f32 := (fun x y u v j => (Host.argReduce reducer_argmin_f32_i32 x y u v reducesTo_S4096x4096_S4096_d1 h_S_ j).1) arg0 v0 cst c
  let v1_1 : IVec S4096 32 := (fun x y u v j => (Host.argReduce reducer_argmin_f32_i32 x y u v reducesTo_S4096x4096_S4096_d1 h_S_ j).2) arg0 v0 cst c
  v1_1

def fn_where_0 {F : FTy → Type} [FloatOps F] (arg0 : IVec S4096 1) (arg1 : IVec S4096 32) (arg2 : IVec S4096 32) : IVec S4096 32 :=
  let v0 : IVec S4096 32 := select arg0 arg1 arg2
  v0

def fn_take {F : FTy → Type} [FloatOps F] (arg0 : FVec F S4096x128 .f32) (arg1 : IVec S4096 32) : FVec F S4096x128 .f32 :=
  let c : IVec S_ 32 := constantI S_ 32 0#32
  let v0 : IVec S4096 32 := broadcastInDim S4096 ![] bcast_S_S4096 c
  let v1 : IVec S4096 1 := cmpi .slt arg1 v0
  let c_0 : IVec S_ 32 := constantI S_ 32 4096#32
  let v2 : IVec S4096 32 := broadcastInDim S4096 ![] bcast_S_S4096 c_0
  let v3 : IVec S4096 32 := addi arg1 v2
  let v4 : IVec S4096 32 := fn_where_0 (F := F) v1 v3 arg1
  let v5 : IVec S4096x1 32 := broadcastInDim S4096x1 ![0] bcast_S4096_S4096x1_0 v4
  let c_1 : IVec S1 32 := constantI S1 32 4095#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  let v12 : IVec S4096 1 := (fun x v => Host.reduce IntOp.andi x v reducesTo_S4096x1_S4096_d1 h_S_) v11 c_3
  let v13 : FVec F S4096x128 .f32 := (fun x i => Host.gather gather_S4096x128_S4096x1_S4096x128_1_0_n_n_0_1_1128 x i) arg0 v5
  let v14 : IVec S4096x128 1 := broadcastInDim S4096x128 ![0] bcast_S4096_S4096x128_0 v12
  let cst : FVec F S_ .f32 := constant S_ .f32 0x7FC00000#32
  let v15 : FVec F S4096x128 .f32 := broadcastInDim S4096x128 ![] bcast_S_S4096x128 cst
  let v16 : FVec F S4096x128 .f32 := select v14 v13 v15
  v16

def fn_norm {F : FTy → Type} [FloatOps F] (arg0 : FVec F S4096x128 .f32) : FVec F S4096 .f32 :=
  let v0 : FVec F S4096x128 .f32 := mulf arg0 arg0
  let cst : FVec F S_ .f32 := constant S_ .f32 0x00000000#32
  let v1 : FVec F S4096 .f32 := (fun x v => Host.reduceAdd x v reducesTo_S4096x128_S4096_d1 h_S_) v0 cst
  let v2 : FVec F S4096 .f32 := Host.sqrt v1
  v2

def fn_where_1 {F : FTy → Type} [FloatOps F] (arg0 : IVec S4096 1) (arg1 : FVec F S4096 .f32) (arg2 : FVec F S_ .f32) : FVec F S4096 .f32 :=
  let v0 : FVec F S_ .f32 := id arg2
  let v1 : FVec F S4096 .f32 := broadcastInDim S4096 ![] bcast_S_S4096 v0
  let v2 : FVec F S4096 .f32 := select arg0 arg1 v1
  v2

def fn_part3 {F : FTy → Type} [FloatOps F] (main_arg3 : FVec F S_ .f32) (main_v36 : IVec S4096 1) (main_v55 : FVec F S4096 .f32) (main_v57 : FVec F S_ .f32) (main_cst_11 : FVec F S_ .f32) : IVec S_ 1 :=
  let main_v58 : FVec F S4096 .f32 := fn_where_1 (F := F) main_v36 main_v55 main_cst_11
  let main_cst_12 : FVec F S_ .f32 := constant S_ .f32 0x00000000#32
  let main_v59 : FVec F S_ .f32 := (fun x v => Host.reduceAdd x v reducesTo_S4096_S_d0 h_S_) main_v58 main_cst_12
  let main_cst_13 : FVec F S_ .f32 := constant S_ .f32 0x3F800000#32
  let main_v60 : FVec F S_ .f32 := maximumf main_v57 main_cst_13
  let main_v61 : FVec F S_ .f32 := Host.divf main_v59 main_v60
  let main_v62 : FVec F S_ .f32 := subf main_arg3 main_v61
  let main_v63 : FVec F S_ .f32 := Host.absf main_v62
  let main_cst_14 : FVec F S_ .f32 := constant S_ .f32 0x37FBA882#32
  let main_v64 : IVec S_ 1 := cmpf .ole main_v63 main_cst_14
  main_v64

def fn_part2 {F : FTy → Type} [FloatOps F] (main_arg0 : FVec F S4096x128 .f32) (main_arg3 : FVec F S_ .f32) (main_v36 : IVec S4096 1) (main_v38 : IVec S4096 32) (main_v39 : FVec F S4096x4096 .f32) : IVec S_ 1 :=
  let main_v40 : IVec S4096 32 := fn_argmin (F := F) main_v39
  let main_v41 : FVec F S4096x128 .f32 := fn_take (F := F) main_arg0 main_v38
  let main_v42 : FVec F S4096x128 .f32 := fn_take (F := F) main_arg0 main_v40
  let main_v43 : FVec F S4096x128 .f32 := subf main_arg0 main_v41
  let main_cst_6 : FVec F S_ .f32 := constant S_ .f32 0x358637BD#32
  let main_v44 : FVec F S4096x128 .f32 := broadcastInDim S4096x128 ![] bcast_S_S4096x128 main_cst_6
  let main_v45 : FVec F S4096x128 .f32 := addf main_v43 main_v44
  let main_v46 : FVec F S4096 .f32 := fn_norm (F := F) main_v45
  let main_v47 : FVec F S4096x128 .f32 := subf main_arg0 main_v42
  let main_cst_7 : FVec F S_ .f32 := constant S_ .f32 0x358637BD#32
  let main_v48 : FVec F S4096x128 .f32 := broadcastInDim S4096x128 ![] bcast_S_S4096x128 main_cst_7
  let main_v49 : FVec F S4096x128 .f32 := addf main_v47 main_v48
  let main_v50 : FVec F S4096 .f32 := fn_norm (F := F) main_v49
  let main_v51 : FVec F S4096 .f32 := subf main_v46 main_v50
  let main_cst_8 : FVec F S_ .f32 := constant S_ .f32 0x3F4CCCCD#32
  let main_v52 : FVec F S4096 .f32 := broadcastInDim S4096 ![] bcast_S_S4096 main_cst_8
  let main_v53 : FVec F S4096 .f32 := addf main_v51 main_v52
  let main_cst_9 : FVec F S_ .f32 := constant S_ .f32 0x00000000#32
  let main_v54 : FVec F S4096 .f32 := broadcastInDim S4096 ![] bcast_S_S4096 main_cst_9
  let main_v55 : FVec F S4096 .f32 := maximumf main_v53 main_v54
  let main_v56 : FVec F S4096 .f32 := uitofp .f32 main_v36
  let main_cst_10 : FVec F S_ .f32 := constant S_ .f32 0x00000000#32
  let main_v57 : FVec F S_ .f32 := (fun x v => Host.reduceAdd x v reducesTo_S4096_S_d0 h_S_) main_v56 main_cst_10
  let main_cst_11 : FVec F S_ .f32 := constant S_ .f32 0x00000000#32
  fn_part3 (F := F) main_arg3 main_v36 main_v55 main_v57 main_cst_11

def fn_part1 {F : FTy → Type} [FloatOps F] (main_arg0 : FVec F S4096x128 .f32) (main_arg3 : FVec F S_ .f32) (main_v13 : FVec F S4096x4096 .f32) (main_v18 : IVec S4096x4096 1) (main_v19 : IVec S4096x1 32) (main_v20 : IVec S1x4096 32) : IVec S_ 1 :=
  let main_v21 : IVec S4096x4096 32 := broadcastInDim S4096x4096 ![0, 1] bcast_S4096x1_S4096x4096_0_1 main_v19
  let main_v22 : IVec S4096x4096 32 := broadcastInDim S4096x4096 ![0, 1] bcast_S1x4096_S4096x4096_0_1 main_v20
  let main_v23 : IVec S4096x4096 1 := cmpi .eq main_v21 main_v22
  let main_v24 : IVec S4096x4096 32 := iotaInDim S4096x4096 32 0
  let main_v25 : IVec S4096x4096 32 := iotaInDim S4096x4096 32 1
  let main_c : IVec S_ 32 := constantI S_ 32 0#32
  let main_v26 : IVec S4096x4096 32 := broadcastInDim S4096x4096 ![] bcast_S_S4096x4096 main_c
  let main_v27 : IVec S4096x4096 32 := addi main_v24 main_v26
  let main_v28 : IVec S4096x4096 1 := cmpi .eq main_v27 main_v25
  let main_v29 : IVec S4096x4096 1 := andi main_v18 main_v23
  let main_v30 : IVec S4096x4096 1 := noti main_v28
  let main_v31 : IVec S4096x4096 1 := andi main_v29 main_v30
  let main_v32 : IVec S4096x4096 1 := noti main_v23
  let main_v33 : IVec S4096x4096 1 := andi main_v18 main_v32
  let main_c_2 : IVec S_ 1 := constantI S_ 1 0#1
  let main_v34 : IVec S4096 1 := (fun x v => Host.reduce IntOp.ori x v reducesTo_S4096x4096_S4096_d1 h_S_) main_v31 main_c_2
  let main_c_3 : IVec S_ 1 := constantI S_ 1 0#1
  let main_v35 : IVec S4096 1 := (fun x v => Host.reduce IntOp.ori x v reducesTo_S4096x4096_S4096_d1 h_S_) main_v33 main_c_3
  let main_v36 : IVec S4096 1 := andi main_v34 main_v35
  let main_cst_4 : FVec F S_ .f32 := constant S_ .f32 0xFF800000#32
  let main_v37 : FVec F S4096x4096 .f32 := fn_where (F := F) main_v31 main_v13 main_cst_4
  let main_v38 : IVec S4096 32 := fn_argmax (F := F) main_v37
  let main_cst_5 : FVec F S_ .f32 := constant S_ .f32 0x7F800000#32
  let main_v39 : FVec F S4096x4096 .f32 := fn_where (F := F) main_v33 main_v13 main_cst_5
  fn_part2 (F := F) main_arg0 main_arg3 main_v36 main_v38 main_v39

def fn {F : FTy → Type} [FloatOps F] (main_arg0 : FVec F S4096x128 .f32) (main_arg1 : IVec S4096 32) (main_arg2 : IVec S4096 32) (main_arg3 : FVec F S_ .f32) : IVec S_ 1 :=
  let main_v0 : FVec F S4096x128 .f32 := mulf main_arg0 main_arg0
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S128x4096 .f32 := (transpose S128x4096 [1, 0] · transposes_S4096x128_S128x4096_1_0) main_arg0
  let main_v8 : FVec F S4096x4096 .f32 := (fun l r => Host.dotGeneral dot_S4096x128_S128x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x00000000#32
  let main_v12 : FVec F S4096x4096 .f32 := fn_clip (F := F) main_v11 main_cst_1
  let main_v13 : FVec F S4096x4096 .f32 := Host.sqrt main_v12
  let main_v14 : IVec S4096x1 32 := broadcastInDim S4096x1 ![0] bcast_S4096_S4096x1_0 main_arg2
  let main_v15 : IVec S1x4096 32 := broadcastInDim S1x4096 ![1] bcast_S4096_S1x4096_1 main_arg2
  let main_v16 : IVec S4096x4096 32 := broadcastInDim S4096x4096 ![0, 1] bcast_S4096x1_S4096x4096_0_1 main_v14
  let main_v17 : IVec S4096x4096 32 := broadcastInDim S4096x4096 ![0, 1] bcast_S1x4096_S4096x4096_0_1 main_v15
  let main_v18 : IVec S4096x4096 1 := cmpi .eq main_v16 main_v17
  let main_v19 : IVec S4096x1 32 := broadcastInDim S4096x1 ![0] bcast_S4096_S4096x1_0 main_arg1
  let main_v20 : IVec S1x4096 32 := broadcastInDim S1x4096 ![1] bcast_S4096_S1x4096_1 main_arg1
  fn_part1 (F := F) main_arg0 main_arg3 main_v13 main_v18 main_v19 main_v20
-- ==== Pre_drawn.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v12 : IVec S_ 1) (main_v14 : IVec S4096 1) (main_v15 : IVec S4096 32) : IVec S_ 1 :=
  let main_v16 : IVec S4096 1 := cmpi .slt main_arg2 main_v15
  let main_v17 : IVec S4096 1 := andi main_v14 main_v16
  let main_c_6 : IVec S_ 1 := constantI S_ 1 1#1
  let main_v18 : IVec S_ 1 := (fun x v => Host.reduce IntOp.andi x v reducesTo_S4096_S_d0 h_S_) main_v17 main_c_6
  let main_v19 : IVec S_ 1 := andi main_v12 main_v18
  main_v19

def fn {F : FTy → Type} [FloatOps F] (main_arg0 : FVec F S4096x128 .f32) (main_arg1 : IVec S4096 32) (main_arg2 : IVec S4096 32) : IVec S_ 1 :=
  let main_cst : FVec F S_ .f32 := constant S_ .f32 0xFF800000#32
  let main_v0 : FVec F S4096x128 .f32 := broadcastInDim S4096x128 ![] bcast_S_S4096x128 main_cst
  let main_v1 : IVec S4096x128 1 := cmpf .ogt main_arg0 main_v0
  let main_cst_0 : FVec F S_ .f32 := constant S_ .f32 0x7F800000#32
  let main_v2 : FVec F S4096x128 .f32 := broadcastInDim S4096x128 ![] bcast_S_S4096x128 main_cst_0
  let main_v3 : IVec S4096x128 1 := cmpf .olt main_arg0 main_v2
  let main_v4 : IVec S4096x128 1 := andi main_v1 main_v3
  let main_c : IVec S_ 1 := constantI S_ 1 1#1
  let main_v5 : IVec S_ 1 := (fun x v => Host.reduce IntOp.andi x v reducesTo_S4096x128_S_d0_1 h_S_) main_v4 main_c
  let main_c_1 : IVec S_ 32 := constantI S_ 32 0#32
  let main_v6 : IVec S4096 32 := broadcastInDim S4096 ![] bcast_S_S4096 main_c_1
  let main_v7 : IVec S4096 1 := cmpi .sge main_arg1 main_v6
  let main_c_2 : IVec S_ 32 := constantI S_ 32 8#32
  let main_v8 : IVec S4096 32 := broadcastInDim S4096 ![] bcast_S_S4096 main_c_2
  let main_v9 : IVec S4096 1 := cmpi .slt main_arg1 main_v8
  let main_v10 : IVec S4096 1 := andi main_v7 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v5 main_v11
  let main_c_4 : IVec S_ 32 := constantI S_ 32 0#32
  let main_v13 : IVec S4096 32 := broadcastInDim S4096 ![] bcast_S_S4096 main_c_4
  let main_v14 : IVec S4096 1 := cmpi .sge main_arg2 main_v13
  let main_c_5 : IVec S_ 32 := constantI S_ 32 32#32
  let main_v15 : IVec S4096 32 := broadcastInDim S4096 ![] bcast_S_S4096 main_c_5
  fn_part1 (F := F) main_arg2 main_v12 main_v14 main_v15
-- ==== Kernel.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S16x1x128 : Shape := ⟨3, ![16, 1, 128]⟩
abbrev S256x128 : Shape := ⟨2, ![256, 128]⟩
abbrev S256x1 : Shape := ⟨2, ![256, 1]⟩
abbrev S1x1x128 : Shape := ⟨3, ![1, 1, 128]⟩
abbrev S256 : Shape := ⟨1, ![256]⟩
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S1x512 : Shape := ⟨2, ![1, 512]⟩
abbrev S1x256x1 : Shape := ⟨3, ![1, 256, 1]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 23
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096x1, .i32⟩
  | .hbm, ⟨8, _⟩ => ⟨S4096x1, .i32⟩
  | .hbm, ⟨9, _⟩ => ⟨S1x4096, .i32⟩
  | .hbm, ⟨10, _⟩ => ⟨S1x4096, .i32⟩
  | .hbm, ⟨11, _⟩ => ⟨S16x1x128, .f32⟩
  | .hbm, ⟨12, _⟩ => ⟨S16x1x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S16x1x1, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S256x1, .i32⟩
  | .local _ .vmem, ⟨4, _⟩ => ⟨S256x1, .i32⟩
  | .local _ .vmem, ⟨5, _⟩ => ⟨S256x1, .i32⟩
  | .local _ .vmem, ⟨6, _⟩ => ⟨S256x1, .i32⟩
  | .local _ .vmem, ⟨7, _⟩ => ⟨S1x4096, .i32⟩
  | .local _ .vmem, ⟨8, _⟩ => ⟨S1x4096, .i32⟩
  | .local _ .vmem, ⟨9, _⟩ => ⟨S1x1x128, .f32⟩
  | .local _ .vmem, ⟨10, _⟩ => ⟨S1x1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v51 : BitVec 32 := Scalar.muli arg8 c512_i32
  let v52 : Index := Scalar.indexCast v51
  let c0_24 : Index := 0#32
  ![v52.toNat, 0]
def k0_off2 (k0_t1 : Fin k0_t1_loop.trips) : Fin 2 → Nat :=
  let c0_30 : Index := 0#32
  let c0_i32 : BitVec 32 := 0#32
  let c1_i32 : BitVec 32 := 1#32
  let arg8 : BitVec 32 := Scf.iv c0_i32 c1_i32 k0_t1
  let c512_i32_29 : BitVec 32 := 512#32
  let v67 : BitVec 32 := Scalar.muli arg8 c512_i32_29
  let v68 : Index := Scalar.indexCast v67
  ![0, v68.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "no_neg" => some ⊤
  | "no_pos" => some ⊥
  | "some_neg" => some ⊤
  | "some_pos" => some ⊥
  | _ => none
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S1 : Shape := ⟨1, ![1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S4096x128, .f32⟩
  | 1 => ⟨S4096, .i32⟩
  | 2 => ⟨S4096, .i32⟩
  | 3 => ⟨S4096x128, .f32⟩
  | 4 => ⟨S_, .f32⟩
  | 5 => ⟨S4096, .f32⟩
  | 6 => ⟨S4096x1, .f32⟩
  | 7 => ⟨S1x4096, .f32⟩
  | 8 => ⟨S4096x4096, .f32⟩
  | 9 => ⟨S4096x4096, .f32⟩
  | 10 => ⟨S4096x4096, .f32⟩
  | 11 => ⟨S128x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S4096x4096, .f32⟩
  | 20 => ⟨S4096x4096, .f32⟩
  | 21 => ⟨S4096x4096, .f32⟩
  | 22 => ⟨S4096x1, .i32⟩
  | 23 => ⟨S1x4096, .i32⟩
  | 24 => ⟨S4096x4096, .i32⟩
  | 25 => ⟨S4096x4096, .i32⟩
  | 26 => ⟨S4096x4096, .i1⟩
  | 27 => ⟨S4096x1, .i32⟩
  | 28 => ⟨S1x4096, .i32⟩
  | 29 => ⟨S4096x4096, .i32⟩
  | 30 => ⟨S4096x4096, .i32⟩
  | 31 => ⟨S4096x4096, .i1⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S4096x4096, .i1⟩
  | 38 => ⟨S4096x4096, .i1⟩
  | 39 => ⟨S4096x4096, .i1⟩
  | 40 => ⟨S4096x4096, .i1⟩
  | 41 => ⟨S4096x4096, .i1⟩
  | 42 => ⟨S4096x4096, .i1⟩
  | 43 => ⟨S_, .i1⟩
  | 44 => ⟨S4096, .i1⟩
  | 45 => ⟨S_, .i1⟩
  | 46 => ⟨S4096, .i1⟩
  | 47 => ⟨S4096, .i1⟩
  | 48 => ⟨S_, .f32⟩
  | 49 => ⟨S_, .f32⟩
  | 50 => ⟨S4096x4096, .f32⟩
  | 51 => ⟨S4096x4096, .f32⟩
  | 52 => ⟨S4096x4096, .i32⟩
  | 53 => ⟨S_, .f32⟩
  | 54 => ⟨S_, .i32⟩
  | 55 => ⟨S4096, .f32⟩
  | 56 => ⟨S4096, .i32⟩
  | 57 => ⟨S_, .f32⟩
  | 58 => ⟨S_, .f32⟩
  | 59 => ⟨S4096x4096, .f32⟩
  | 60 => ⟨S4096x4096, .f32⟩
  | 61 => ⟨S4096x4096, .i32⟩
  | 62 => ⟨S_, .f32⟩
  | 63 => ⟨S_, .i32⟩
  | 64 => ⟨S4096, .f32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S1, .i32⟩
  | 75 => ⟨S_, .i32⟩
  | 76 => ⟨S4096x1, .i32⟩
  | 77 => ⟨S4096x1, .i1⟩
  | 78 => ⟨S1x1, .i32⟩
  | 79 => ⟨S4096x1, .i32⟩
  | 80 => ⟨S4096x1, .i1⟩
  | 81 => ⟨S4096x1, .i1⟩
  | 82 => ⟨S_, .i1⟩
  | 83 => ⟨S4096, .i1⟩
  | 84 => ⟨S4096x128, .f32⟩
  | 85 => ⟨S4096x128, .i1⟩
  | 86 => ⟨S_, .f32⟩
  | 87 => ⟨S4096x128, .f32⟩
  | 88 => ⟨S4096x128, .f32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S1, .i32⟩
  | 98 => ⟨S_, .i32⟩
  | 99 => ⟨S4096x1, .i32⟩
  | 100 => ⟨S4096x1, .i1⟩
  | 101 => ⟨S1x1, .i32⟩
  | 102 => ⟨S4096x1, .i32⟩
  | 103 => ⟨S4096x1, .i1⟩
  | 104 => ⟨S4096x1, .i1⟩
  | 105 => ⟨S_, .i1⟩
  | 106 => ⟨S4096, .i1⟩
  | 107 => ⟨S4096x128, .f32⟩
  | 108 => ⟨S4096x128, .i1⟩
  | 109 => ⟨S_, .f32⟩
  | 110 => ⟨S4096x128, .f32⟩
  | 111 => ⟨S4096x128, .f32⟩
  | 112 => ⟨S4096x128, .f32⟩
  | 113 => ⟨S4096x128, .f32⟩
  | 114 => ⟨S_, .f32⟩
  | 115 => ⟨S4096, .f32⟩
  | 116 => ⟨S4096, .f32⟩
  | 117 => ⟨S4096x128, .f32⟩
  | 118 => ⟨S4096x128, .f32⟩
  | 119 => ⟨S_, .f32⟩
  | 120 => ⟨S4096, .f32⟩
  | 121 => ⟨S4096, .f32⟩
  | 122 => ⟨S4096, .f32⟩
  | 123 => ⟨S_, .f32⟩
  | 124 => ⟨S4096, .f32⟩
  | 125 => ⟨S4096, .f32⟩
  | 126 => ⟨S_, .f32⟩
  | 127 => ⟨S4096, .f32⟩
  | _ => ⟨S4096x128, .f32⟩

abbrev hbmTy0_1 (i : Nat) : BufTy := match i % 128 with
  | 0 => ⟨S4096, .f32⟩
  | 1 => ⟨S4096, .f32⟩
  | 2 => ⟨S_, .f32⟩
  | 3 => ⟨S_, .f32⟩
  | 4 => ⟨S_, .f32⟩
  | 5 => ⟨S_, .f32⟩
  | 6 => ⟨S4096, .f32⟩
  | 7 => ⟨S4096, .f32⟩
  | 8 => ⟨S_, .f32⟩
  | 9 => ⟨S_, .f32⟩
  | 10 => ⟨S_, .f32⟩
  | 11 => ⟨S_, .f32⟩
  | 12 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_call1_v0 : Ref sig .tc := ⟨.hbm, 49, rfl⟩
abbrev main_call1_v1 : Ref sig .tc := ⟨.hbm, 50, rfl⟩
abbrev main_v37 : Ref sig .tc := ⟨.hbm, 51, rfl⟩
abbrev main_call2_v0 : Ref sig .tc := ⟨.hbm, 52, rfl⟩
abbrev main_call2_cst : Ref sig .tc := ⟨.hbm, 53, rfl⟩
abbrev main_call2_c : Ref sig .tc := ⟨.hbm, 54, rfl⟩
abbrev main_call2_v1_0 : Ref sig .tc := ⟨.hbm, 55, rfl⟩
abbrev main_v38 : Ref sig .tc := ⟨.hbm, 56, rfl⟩
abbrev main_cst_5 : Ref sig .tc := ⟨.hbm, 57, rfl⟩
abbrev main_call3_v0 : Ref sig .tc := ⟨.hbm, 58, rfl⟩
abbrev main_call3_v1 : Ref sig .tc := ⟨.hbm, 59, rfl⟩
abbrev main_v39 : Ref sig .tc := ⟨.hbm, 60, rfl⟩
abbrev main_call4_v0 : Ref sig .tc := ⟨.hbm, 61, rfl⟩
abbrev main_call4_cst : Ref sig .tc := ⟨.hbm, 62, rfl⟩
abbrev main_call4_c : Ref sig .tc := ⟨.hbm, 63, rfl⟩
abbrev main_call4_v1_0 : Ref sig .tc := ⟨.hbm, 64, rfl⟩
abbrev main_v40 : Ref sig .tc := ⟨.hbm, 65, rfl⟩
abbrev main_call5_c : Ref sig .tc := ⟨.hbm, 66, rfl⟩
abbrev main_call5_v0 : Ref sig .tc := ⟨.hbm, 67, rfl⟩
abbrev main_call5_v1 : Ref sig .tc := ⟨.hbm, 68, rfl⟩
abbrev main_call5_c_0 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_v5 : Ref sig .tc := ⟨.hbm, 73, rfl⟩
abbrev main_call5_c_1 : Ref sig .tc := ⟨.hbm, 74, rfl⟩
abbrev main_call5_c_2 : Ref sig .tc := ⟨.hbm, 75, rfl⟩
abbrev main_call5_v6 : Ref sig .tc := ⟨.hbm, 76, rfl⟩
abbrev main_call5_v7 : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_c_3 : Ref sig .tc := ⟨.hbm, 82, rfl⟩
abbrev main_call5_v12 : Ref sig .tc := ⟨.hbm, 83, rfl⟩
abbrev main_call5_v13 : Ref sig .tc := ⟨.hbm, 84, rfl⟩
abbrev main_call5_v14 : Ref sig .tc := ⟨.hbm, 85, rfl⟩
abbrev main_call5_cst : Ref sig .tc := ⟨.hbm, 86, rfl⟩
abbrev main_call5_v15 : Ref sig .tc := ⟨.hbm, 87, rfl⟩
abbrev main_v41 : Ref sig .tc := ⟨.hbm, 88, rfl⟩
abbrev main_call6_c : Ref sig .tc := ⟨.hbm, 89, rfl⟩
abbrev main_call6_v0 : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_c_1 : Ref sig .tc := ⟨.hbm, 97, rfl⟩
abbrev main_call6_c_2 : Ref sig .tc := ⟨.hbm, 98, rfl⟩
abbrev main_call6_v6 : Ref sig .tc := ⟨.hbm, 99, rfl⟩
abbrev main_call6_v7 : Ref sig .tc := ⟨.hbm, 100, rfl⟩
abbrev main_call6_v8 : Ref sig .tc := ⟨.hbm, 101, rfl⟩
abbrev main_call6_v9 : Ref sig .tc := ⟨.hbm, 102, rfl⟩
abbrev main_call6_v10 : Ref sig .tc := ⟨.hbm, 103, rfl⟩
abbrev main_call6_v11 : Ref sig .tc := ⟨.hbm, 104, rfl⟩
abbrev main_call6_c_3 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_call6_cst : Ref sig .tc := ⟨.hbm, 109, rfl⟩
abbrev main_call6_v15 : Ref sig .tc := ⟨.hbm, 110, rfl⟩
abbrev main_v42 : Ref sig .tc := ⟨.hbm, 111, rfl⟩
abbrev main_v43 : Ref sig .tc := ⟨.hbm, 112, rfl⟩
abbrev main_call7_v0 : Ref sig .tc := ⟨.hbm, 113, rfl⟩
abbrev main_call7_cst : Ref sig .tc := ⟨.hbm, 114, rfl⟩
abbrev main_call7_v1 : Ref sig .tc := ⟨.hbm, 115, rfl⟩
abbrev main_v44 : Ref sig .tc := ⟨.hbm, 116, rfl⟩
abbrev main_v45 : Ref sig .tc := ⟨.hbm, 117, rfl⟩
abbrev main_call8_v0 : Ref sig .tc := ⟨.hbm, 118, rfl⟩
abbrev main_call8_cst : Ref sig .tc := ⟨.hbm, 119, rfl⟩
abbrev main_call8_v1 : Ref sig .tc := ⟨.hbm, 120, rfl⟩
abbrev main_v46 : Ref sig .tc := ⟨.hbm, 121, rfl⟩
abbrev main_v47 : Ref sig .tc := ⟨.hbm, 122, rfl⟩
abbrev main_cst_6 : Ref sig .tc := ⟨.hbm, 123, rfl⟩
abbrev main_v48 : Ref sig .tc := ⟨.hbm, 124, rfl⟩
abbrev main_v49 : Ref sig .tc := ⟨.hbm, 125, rfl⟩
abbrev main_cst_7 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_cst_8 : Ref sig .tc := ⟨.hbm, 130, rfl⟩
abbrev main_v53 : Ref sig .tc := ⟨.hbm, 131, rfl⟩
abbrev main_cst_9 : Ref sig .tc := ⟨.hbm, 132, rfl⟩
abbrev main_call9_v0 : Ref sig .tc := ⟨.hbm, 133, rfl⟩
abbrev main_call9_v1 : Ref sig .tc := ⟨.hbm, 134, rfl⟩
abbrev main_v54 : Ref sig .tc := ⟨.hbm, 135, rfl⟩
abbrev main_cst_10 : Ref sig .tc := ⟨.hbm, 136, rfl⟩
abbrev main_v55 : Ref sig .tc := ⟨.hbm, 137, rfl⟩
abbrev main_cst_11 : Ref sig .tc := ⟨.hbm, 138, rfl⟩
abbrev main_v56 : Ref sig .tc := ⟨.hbm, 139, rfl⟩
abbrev main_v57 : Ref sig .tc := ⟨.hbm, 140, rfl⟩

abbrev nD : Nat := 1
abbrev τ : Topo := Topo.v7x

variable {F : FTy → Type} [FloatOps F]
-- ==== Proof.Math.lean ====
/-
  The loss as plain mathematics over the extended reals, and the facts both sides meet at: the squared distance as a
  sum of squares, the farthest and nearest entry under a mask, the hinge of a row, and sums and folds over blocks.
-/
module

public import Idealize.ShloMosaic.PureOps.Ideal
public import Idealize.ShloMosaic.PureOps.Ideal.Laws
public import Idealize.ShloMosaic.Init

@[expose] public section

noncomputable section

namespace Cert.Triplet

open Idealize.ShloMosaic

/-! ## The specification -/

/-- The squared distance of two rows. -/
def dist2 {n d : Nat} (x : Fin n → Fin d → ℝ) (i j : Fin n) : ℝ := ∑ k, (x i k - x j k) * (x i k - x j k)

/-- The largest entry under a mask; least element of the extended reals under an empty one. -/
def far {n : Nat} (p : Fin n → BitVec 1) (d : Fin n → ℝ) : EReal :=
  Finset.univ.sup fun j => Scalar.select (p j) (d j : EReal) ⊥

/-- The smallest entry under a mask; greatest element of the extended reals under an empty one. -/
def near {n : Nat} (q : Fin n → BitVec 1) (d : Fin n → ℝ) : EReal :=
  Finset.univ.inf fun j => Scalar.select (q j) (d j : EReal) ⊤

/-- A row counts when both of its masks hold somewhere. -/
def Valid {n : Nat} (p q : Fin n → BitVec 1) : Prop := (∃ j, p j = 1#1) ∧ ∃ j, q j = 1#1

/-- The hinge of a row: the distance to the farthest positive less the distance to the nearest negative plus the margin,
    cut off at zero; zero for a row that does not count. -/
def hinge {n : Nat} (p q : Fin n → BitVec 1) (d : Fin n → ℝ) (margin : EReal) : EReal :=
  open Classical in
  if Valid p q then max (Ideal.sqrt (far p d) - Ideal.sqrt (near q d) + margin) 0 else 0

/-- One for a row that counts, zero for another. -/
def tally {n : Nat} (p q : Fin n → BitVec 1) : EReal :=
  open Classical in if Valid p q then 1 else 0

/-- The mean of the hinges over the rows that count; the divisor is at least one. -/
def loss {n : Nat} (p q : Fin n → Fin n → BitVec 1) (d : Fin n → Fin n → ℝ) (margin : EReal) : EReal :=
  Ideal.div (∑ i, hinge (p i) (q i) (d i) margin) (max (∑ i, tally (p i) (q i)) 1)

/-! ## Coercions -/

/-- The coercion of the reals into the extended reals goes through a finite sum. -/
theorem coe_sum {ι : Type} [Fintype ι] (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- A finite array of extended reals without infinities is one of reals. -/
theorem exists_real {ι : Type} {x : ι → EReal} (h : ∀ i, ⊥ < x i ∧ x i < ⊤) : ∃ r : ι → ℝ, ∀ i, x i = (r i : EReal) :=
  ⟨fun i => (x i).toReal, fun i => (EReal.coe_toReal (h i).2.ne (h i).1.ne').symm⟩

theorem dist2_nonneg {n d : Nat} (x : Fin n → Fin d → ℝ) (i j : Fin n) : 0 ≤ dist2 x i j :=
  Finset.sum_nonneg fun k _ => mul_self_nonneg _

/-- The square of a real difference, in the extended reals, summed: the squared distance. -/
theorem sum_sub_sq {n d : Nat} (x : Fin n → Fin d → ℝ) (i j : Fin n) :
    (∑ k, ((x i k : EReal) - (x j k : EReal)) * ((x i k : EReal) - (x j k : EReal))) = (dist2 x i j : EReal) := by
  rw [dist2, coe_sum]
  refine Finset.sum_congr rfl fun k _ => ?_
  rw [EReal.coe_mul, EReal.coe_sub]

/-- Squared norms less twice the product: the squared distance. -/
theorem gram {n d : Nat} (x : Fin n → Fin d → ℝ) (i j : Fin n) :
    ((∑ k, (x i k : EReal) * (x i k : EReal)) + (∑ k, (x j k : EReal) * (x j k : EReal))
      - ((2 : ℝ) : EReal) * ∑ k, (x i k : EReal) * (x j k : EReal)) = (dist2 x i j : EReal) := by
  simp only [← EReal.coe_mul, ← coe_sum, ← EReal.coe_add, ← EReal.coe_sub]
  congr 1
  rw [dist2, Finset.mul_sum, ← Finset.sum_add_distrib, ← Finset.sum_sub_distrib]
  exact Finset.sum_congr rfl fun k _ => by ring

theorem sqrt_coe {r : ℝ} (h : 0 ≤ r) : Ideal.sqrt (r : EReal) = (Real.sqrt r : EReal) := by
  show (if r < 0 then (⊥ : EReal) else (Real.sqrt r : EReal)) = _
  rw [if_neg (not_lt.2 h)]

/-! ## Selections under a mask -/

theorem select_one {α : Type} {c : BitVec 1} (h : c = 1#1) (a b : α) : Scalar.select c a b = a := if_pos h
theorem select_ne {α : Type} {c : BitVec 1} (h : ¬ c = 1#1) (a b : α) : Scalar.select c a b = b := if_neg h

/-- A bit is one exactly when another is: the bits are equal. -/
theorem bit_ext {a b : BitVec 1} (h : a = 1#1 ↔ b = 1#1) : a = b := by
  rcases BitVec.eq_zero_or_eq_one a with rfl | rfl <;> rcases BitVec.eq_zero_or_eq_one b with rfl | rfl <;> simp_all

/-- The farthest entry is the one at a position of the mask that no other exceeds. -/
theorem far_eq {n : Nat} {p : Fin n → BitVec 1} {d : Fin n → ℝ} (j : Fin n) (hj : p j = 1#1)
    (h : ∀ k, p k = 1#1 → d k ≤ d j) : far p d = (d j : EReal) := by
  refine le_antisymm (Finset.sup_le fun k _ => ?_) ?_
  · by_cases hk : p k = 1#1
    · rw [select_one hk]; exact EReal.coe_le_coe_iff.2 (h k hk)
    · rw [select_ne hk]; exact bot_le
  · have := Finset.le_sup (f := fun j => Scalar.select (p j) (d j : EReal) ⊥) (Finset.mem_univ j)
    rwa [select_one hj] at this

/-- The nearest entry is the one at a position of the mask that no other is below. -/
theorem near_eq {n : Nat} {q : Fin n → BitVec 1} {d : Fin n → ℝ} (j : Fin n) (hj : q j = 1#1)
    (h : ∀ k, q k = 1#1 → d j ≤ d k) : near q d = (d j : EReal) := by
  refine le_antisymm ?_ (Finset.le_inf fun k _ => ?_)
  · have := Finset.inf_le (f := fun j => Scalar.select (q j) (d j : EReal) ⊤) (Finset.mem_univ j)
    rwa [select_one hj] at this
  · by_cases hk : q k = 1#1
    · rw [select_one hk]; exact EReal.coe_le_coe_iff.2 (h k hk)
    · rw [select_ne hk]; exact le_top

/-- The farthest entry is above the least element exactly under a mask that holds somewhere. -/
theorem bot_lt_far {n : Nat} (p : Fin n → BitVec 1) (d : Fin n → ℝ) : ⊥ < far p d ↔ ∃ j, p j = 1#1 := by
  rw [far, Finset.lt_sup_iff]
  constructor
  · rintro ⟨j, -, hj⟩
    exact ⟨j, by by_contra hn; rw [select_ne hn] at hj; exact lt_irrefl _ hj⟩
  · rintro ⟨j, hj⟩
    exact ⟨j, Finset.mem_univ j, by rw [select_one hj]; exact EReal.bot_lt_coe _⟩

/-- The nearest entry is below the greatest element exactly under a mask that holds somewhere. -/
theorem near_lt_top {n : Nat} (q : Fin n → BitVec 1) (d : Fin n → ℝ) : near q d < ⊤ ↔ ∃ j, q j = 1#1 := by
  rw [near, Finset.inf_lt_iff]
  constructor
  · rintro ⟨j, -, hj⟩
    exact ⟨j, by by_contra hn; rw [select_ne hn] at hj; exact lt_irrefl _ hj⟩
  · rintro ⟨j, hj⟩
    exact ⟨j, Finset.mem_univ j, by rw [select_one hj]; exact EReal.coe_lt_top _⟩

/-- Under a mask that holds somewhere the farthest of nonnegative entries is nonnegative. -/
theorem far_nonneg {n : Nat} {p : Fin n → BitVec 1} {d : Fin n → ℝ} (hd : ∀ j, 0 ≤ d j) (h : ∃ j, p j = 1#1) :
    0 ≤ far p d := by
  obtain ⟨j, hj⟩ := h
  have := Finset.le_sup (f := fun j => Scalar.select (p j) (d j : EReal) ⊥) (Finset.mem_univ j)
  rw [select_one hj] at this
  exact le_trans (EReal.coe_nonneg.2 (hd j)) this

/-- The nearest of nonnegative entries is nonnegative. -/
theorem near_nonneg {n : Nat} (q : Fin n → BitVec 1) {d : Fin n → ℝ} (hd : ∀ j, 0 ≤ d j) : 0 ≤ near q d :=
  Finset.le_inf fun j _ => by
    by_cases hj : q j = 1#1
    · rw [select_one hj]; exact EReal.coe_nonneg.2 (hd j)
    · rw [select_ne hj]; exact le_top

/-- The bit that says that the farthest and the nearest entry exist, by comparing with the infinities. -/
theorem exists_bit {n : Nat} (p q : Fin n → BitVec 1) (d : Fin n → ℝ) :
    IntOp.andi (BitVec.ofBool (decide (⊥ < far p d))) (BitVec.ofBool (decide (near q d < ⊤))) = 1#1 ↔ Valid p q := by
  rw [Valid, ← bot_lt_far p d, ← near_lt_top q d]
  by_cases h : ⊥ < far p d <;> by_cases h' : near q d < ⊤ <;> simp [h, h', IntOp.andi]

/-- One or zero by that bit: the row's tally. -/
theorem tally_eq {n : Nat} (p q : Fin n → BitVec 1) (d : Fin n → ℝ) :
    Scalar.select (IntOp.andi (BitVec.ofBool (decide (⊥ < far p d))) (BitVec.ofBool (decide (near q d < ⊤))))
      (1 : EReal) 0 = tally p q := by
  unfold tally
  by_cases h : Valid p q
  · rw [select_one ((exists_bit p q d).2 h), if_pos h]
  · rw [select_ne (fun e => h ((exists_bit p q d).1 e)), if_neg h]

/-- The cut-off difference of the distances times the row's tally: the row's hinge. -/
theorem hinge_eq {n : Nat} (p q : Fin n → BitVec 1) {d : Fin n → ℝ} (hd : ∀ j, 0 ≤ d j) (margin : EReal) :
    max (Ideal.sqrt (max (far p d) 0) - Ideal.sqrt (max (near q d) 0) + margin) 0 * tally p q = hinge p q d margin := by
  unfold tally hinge
  by_cases h : Valid p q
  · rw [if_pos h, if_pos h, mul_one, max_eq_left (far_nonneg hd h.1), max_eq_left (near_nonneg q hd)]
  · rw [if_neg h, if_neg h, mul_zero]

/-! ## A fold that keeps one of its two arguments -/

/-- A fold by a function that keeps one of its two arguments, and one related to both: its result is the initial value or an element of the
    list, and every element of the list is related to it. -/
theorem foldl_pick {α : Type} (R : α → α → Prop) (hrefl : ∀ a, R a a) (htrans : ∀ a b c, R a b → R b c → R a c) (f : α → α → α)
    (hmem : ∀ a b, f a b = a ∨ f a b = b) (hl : ∀ a b, R a (f a b)) (hr : ∀ a b, R b (f a b)) (L : List α) (a : α) :
    (L.foldl f a = a ∨ L.foldl f a ∈ L) ∧ R a (L.foldl f a) ∧ ∀ b ∈ L, R b (L.foldl f a) := by
  induction L generalizing a with
  | nil => exact ⟨.inl rfl, hrefl a, fun _ h => absurd h List.not_mem_nil⟩
  | cons b L ih =>
    obtain ⟨h1, h2, h3⟩ := ih (f a b)
    rw [List.foldl_cons]
    refine ⟨?_, htrans _ _ _ (hl a b) h2, fun c hc => ?_⟩
    · rcases h1 with h | h
      · rcases hmem a b with e | e
        · exact .inl (h.trans e)
        · exact .inr (by rw [h, e]; exact List.mem_cons_self)
      · exact .inr (List.mem_cons_of_mem _ h)
    · rcases List.mem_cons.1 hc with rfl | hc
      · exact htrans _ _ _ (hr a _) h2
      · exact h3 c hc

/-! ## Blocks -/

/-- A sum over blocks of rows is the sum over all rows. -/
theorem sum_blocks (a b n : Nat) (e : a * b = n) (f : Fin n → EReal) (g : Fin a → Fin b → EReal)
    (h : ∀ i j (hij : b * i.val + j.val < n), g i j = f ⟨b * i.val + j.val, hij⟩) : ∑ i, ∑ j, g i j = ∑ k, f k := by
  subst e
  rw [← Fintype.sum_prod_type']
  refine Fintype.sum_equiv finProdFinEquiv _ _ fun ij => ?_
  have hv : (finProdFinEquiv ij).val = b * ij.1.val + ij.2.val := by
    show ij.2.val + b * ij.1.val = _
    exact Nat.add_comm _ _
  rw [h ij.1 ij.2 (hv ▸ (finProdFinEquiv ij).isLt)]
  exact congrArg f (Fin.ext hv.symm)

/-- A running maximum over blocks: bounded by what bounds every entry of the blocks so far, block after block. -/
theorem max_block {n w : Nat} (v : Fin n → EReal) (c : Nat) (acc : EReal) (g : Fin w → EReal)
    (hacc : ∀ u, acc ≤ u ↔ ∀ j : Fin n, j.val < w * c → v j ≤ u)
    (hg : ∀ (q : Fin w) (h : w * c + q.val < n), g q = v ⟨w * c + q.val, h⟩) (hn : w * (c + 1) ≤ n) (u : EReal) :
    max acc (Finset.univ.fold max ⊥ g) ≤ u ↔ ∀ j : Fin n, j.val < w * (c + 1) → v j ≤ u := by
  rw [max_le_iff, hacc, Finset.fold_max_le]
  rw [Nat.mul_succ] at hn ⊢
  constructor
  · rintro ⟨h1, -, h2⟩ j hj
    by_cases hlt : j.val < w * c
    · exact h1 j hlt
    · have := h2 ⟨j.val - w * c, by omega⟩ (Finset.mem_univ _)
      have hlt' : w * c + (j.val - w * c) < n := by have := j.isLt; omega
      rw [hg _ hlt'] at this
      have e : (⟨w * c + (j.val - w * c), hlt'⟩ : Fin n) = j := Fin.ext (by show w * c + (j.val - w * c) = j.val; omega)
      rwa [e] at this
  · intro h
    refine ⟨fun j hj => h j (by omega), bot_le, fun q _ => ?_⟩
    have hlt : w * c + q.val < n := by have := q.isLt; omega
    rw [hg q hlt]
    exact h ⟨_, hlt⟩ (by show w * c + q.val < _; have := q.isLt; omega)

/-- A running minimum over blocks: bounded below by what bounds every entry of the blocks so far, block after block. -/
theorem min_block {n w : Nat} (v : Fin n → EReal) (c : Nat) (acc : EReal) (g : Fin w → EReal)
    (hacc : ∀ u, u ≤ acc ↔ ∀ j : Fin n, j.val < w * c → u ≤ v j)
    (hg : ∀ (q : Fin w) (h : w * c + q.val < n), g q = v ⟨w * c + q.val, h⟩) (hn : w * (c + 1) ≤ n) (u : EReal) :
    u ≤ min acc (Finset.univ.fold min ⊤ g) ↔ ∀ j : Fin n, j.val < w * (c + 1) → u ≤ v j := by
  rw [le_min_iff, hacc, Finset.le_fold_min]
  rw [Nat.mul_succ] at hn ⊢
  constructor
  · rintro ⟨h1, -, h2⟩ j hj
    by_cases hlt : j.val < w * c
    · exact h1 j hlt
    · have := h2 ⟨j.val - w * c, by omega⟩ (Finset.mem_univ _)
      have hlt' : w * c + (j.val - w * c) < n := by have := j.isLt; omega
      rw [hg _ hlt'] at this
      have e : (⟨w * c + (j.val - w * c), hlt'⟩ : Fin n) = j := Fin.ext (by show w * c + (j.val - w * c) = j.val; omega)
      rwa [e] at this
  · intro h
    refine ⟨fun j hj => h j (by omega), le_top, fun q _ => ?_⟩
    have hlt : w * c + q.val < n := by have := q.isLt; omega
    rw [hg q hlt]
    exact h ⟨_, hlt⟩ (by show w * c + q.val < _; have := q.isLt; omega)

/-- What is bounded exactly as all entries are is their supremum. -/
theorem eq_sup {n : Nat} (v : Fin n → EReal) (a : EReal) (N : Nat) (hN : n ≤ N)
    (h : ∀ u, a ≤ u ↔ ∀ j : Fin n, j.val < N → v j ≤ u) : a = Finset.univ.sup v :=
  eq_of_forall_ge_iff fun u => by
    rw [h, Finset.sup_le_iff]
    exact ⟨fun g j _ => g j (by have := j.isLt; omega), fun g j _ => g j (Finset.mem_univ j)⟩

/-- What is bounded below exactly as all entries are is their infimum. -/
theorem eq_inf {n : Nat} (v : Fin n → EReal) (a : EReal) (N : Nat) (hN : n ≤ N)
    (h : ∀ u, u ≤ a ↔ ∀ j : Fin n, j.val < N → u ≤ v j) : a = Finset.univ.inf v :=
  eq_of_forall_le_iff fun u => by
    rw [h, Finset.le_inf_iff]
    exact ⟨fun g j _ => g j (by have := j.isLt; omega), fun g j _ => g j (Finset.mem_univ j)⟩

/-! ## The constants -/

theorem ofBits_two : Ideal.ofBits .f32 1073741824#32 = ((2 : ℝ) : EReal) := by
  simp [Ideal.ofBits, Ideal.ieee, -EReal.coe_mul]; norm_num
theorem ofBits_bot : Ideal.ofBits .f32 4286578688#32 = ⊥ := by simp [Ideal.ofBits, Ideal.ieee]
theorem ofBits_top : Ideal.ofBits .f32 2139095040#32 = ⊤ := by simp [Ideal.ofBits, Ideal.ieee]

end Cert.Triplet

end
-- ==== Proof.KTrip.lean ====
/-
  One trip of the kernel's loop over column blocks, and the loop: after all blocks the carried pair holds, per row,
  the farthest positive's and the nearest negative's squared distance over all columns.
-/
module

public import proofs.«01_k».proof.Proof.Gen.KernelIdeal.Frame
public import proofs.«01_k».proof.Proof.Math
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Triplet
open Idealize.ShloMosaic Idealize.ShloMosaic.TcCoe Idealize.ShloMosaic.Tactic Idealize.ShloMosaic.Pipeline
open Idealize.SL.Sem

/-! ## The named constants -/

theorem no_pos : (Named.named κ "no_pos" 4048155338#32 : Ideal .f32) = (⊥ : EReal) := rfl
theorem no_neg : (Named.named κ "no_neg" 1900671690#32 : Ideal .f32) = (⊤ : EReal) := rfl
theorem some_pos : (Named.named κ "some_pos" 4039766730#32 : Ideal .f32) = (⊥ : EReal) := rfl
theorem some_neg : (Named.named κ "some_neg" 1892283082#32 : Ideal .f32) = (⊤ : EReal) := rfl

/-! ## The masks of a block of rows -/

/-- The kernel's positives: the combined keys agree, and the column is not the row itself. -/
def kp (a : BitVec 32) (x2 : Vec Ideal S256x1 .i32) (x4 : Vec Ideal S1x4096 .i32) (r : Fin 256) (j : Fin 4096) : BitVec 1 :=
  IntOp.andi (IntOp.cmpi .eq (x2 (ix2 r 0)) (x4 (ix2 0 j)))
    (IntOp.cmpi .ne (IntOp.addi (Scalar.muli a 256#32) (BitVec.ofNat 32 r.val)) (BitVec.ofNat 32 j.val))

/-- The kernel's negatives: the subjects agree and the combined keys do not. -/
def kn (x2 x3 : Vec Ideal S256x1 .i32) (x4 x5 : Vec Ideal S1x4096 .i32) (r : Fin 256) (j : Fin 4096) : BitVec 1 :=
  IntOp.andi (IntOp.cmpi .eq (x3 (ix2 r 0)) (x5 (ix2 0 j))) (IntOp.xori (IntOp.cmpi .eq (x2 (ix2 r 0)) (x4 (ix2 0 j))) 1#1)

/-! ## The payloads at an index -/

/-- The squared distances of a block of rows and a block of columns. -/
theorem pay2_at (v0 : Vec Ideal S256x128 .f32) (v53 : Vec Ideal S512x128 .f32) (R : Fin 4096 → Fin 128 → ℝ) (r : Fin 256) (q : Fin 512)
    (a b : Fin 4096) (h0 : ∀ k, v0 (ix2 r k) = (R a k : EReal)) (h1 : ∀ k, v53 (ix2 q k) = (R b k : EReal)) :
    k0_pay2 v0 (k0_pay6 v0) v53 (ix2 r q) = (dist2 R a b : EReal) := by
  pointwise [k0_pay2, k0_pay6]
  simp only [h0, h1]
  rw [ofBits_two, gram, max_eq_left (EReal.coe_nonneg.2 (dist2_nonneg R a b))]

/-- The word of a column: the block's first column and the position in the block. -/
theorem col_word (k : Fin k0_t1_loop.trips) (q : Fin 512) :
    IntOp.addi (Scalar.muli (Scf.iv 0#32 1#32 k) 512#32) (BitVec.ofNat 32 q.val) = BitVec.ofNat 32 (512 * k.val + q.val) := by
  have hk : k.val < 8 := Nat.lt_of_lt_of_le k.isLt k0_t1_abs.2.1
  have hq := q.isLt
  apply BitVec.eq_of_toNat_eq
  simp [IntOp.addi, Scalar.muli, Scf.iv, IntOp.muli]
  omega

theorem pay4_at (a : BitVec 32) (v0 : Vec Ideal S256x128 .f32) (v4 : Vec Ideal S256x1 .i32) (k : Fin k0_t1_loop.trips)
    (v53 : Vec Ideal S512x128 .f32) (v69 : Vec Ideal S1x512 .i32) (r : Fin 256) (q : Fin 512) (w : BitVec 32) (hw : v69 (ix2 0 q) = w) (e : EReal)
    (he : k0_pay2 v0 (k0_pay6 v0) v53 (ix2 r q) = e) :
    k0_pay4 a v0 (k0_pay6 v0) (k0_pay7 v4) 0#32 1#32 k v53 v69 (ix2 r q)
      = Scalar.select (IntOp.andi (IntOp.cmpi .eq (v4 (ix2 r 0)) w)
          (IntOp.cmpi .ne (IntOp.addi (Scalar.muli a 256#32) (BitVec.ofNat 32 r.val)) (BitVec.ofNat 32 (512 * k.val + q.val)))) e ⊥ := by
  rw [← he, ← hw, ← col_word]
  pointwise [k0_pay4, k0_pay3, k0_pay7]
  rw [no_pos]

theorem pay5_at (v4 v6 : Vec Ideal S256x1 .i32) (v69 v73 : Vec Ideal S1x512 .i32) (r : Fin 256) (q : Fin 512) :
    k0_pay5 (k0_pay7 v4) (k0_pay8 v6) v69 v73 (ix2 r q)
      = IntOp.andi (IntOp.cmpi .eq (v6 (ix2 r 0)) (v73 (ix2 0 q))) (IntOp.xori (IntOp.cmpi .eq (v4 (ix2 r 0)) (v69 (ix2 0 q))) 1#1) := by
  pointwise [k0_pay5, k0_pay3, k0_pay7, k0_pay8]

theorem pay11_at (a9 : FVec Ideal S256x1 .f32) (v92 : FVec Ideal S256x512 .f32) (r : Fin 256) :
    k0_pay11 a9 v92 (ix2 r 0) = max (a9 (ix2 r 0) : EReal) (Finset.univ.fold max (⊥ : EReal) fun q : Fin 512 => v92 (ix2 r q)) := by
  pointwise [k0_pay11]
  rw [ofBits_bot]

theorem pay12_at (a10 : FVec Ideal S256x1 .f32) (v66 : FVec Ideal S256x512 .f32) (v94 : IVec S256x512 1) (r : Fin 256) :
    k0_pay12 a10 v66 v94 (Named.named κ "no_neg" 1900671690#32) (ix2 r 0)
      = min (a10 (ix2 r 0) : EReal) (Finset.univ.fold min (⊤ : EReal) fun q : Fin 512 => Scalar.select (v94 (ix2 r q)) (v66 (ix2 r q)) (⊤ : EReal)) := by
  pointwise [k0_pay12]
  rw [ofBits_top]
  rfl

/-! ## The loads -/

theorem off1_val (k : Fin k0_t1_loop.trips) : k0_off1 k 0 = 512 * k.val ∧ k0_off1 k 1 = 0 := by
  have hk : k.val < 8 := Nat.lt_of_lt_of_le k.isLt k0_t1_abs.2.1
  refine ⟨?_, rfl⟩
  show BitVec.toNat (Scalar.indexCast (Scalar.muli (Scf.iv 0#32 1#32 k) 512#32)) = _
  simp [Scalar.indexCast, Scalar.muli, Scf.iv, IntOp.muli]
  omega

theorem off2_val (k : Fin k0_t1_loop.trips) : k0_off2 k 0 = 0 ∧ k0_off2 k 1 = 512 * k.val := ⟨rfl, (off1_val k).1⟩

/-- A block of rows of the whole array. -/
theorem ld_rows (X : Vec Ideal S4096x128 .f32) (k : Fin k0_t1_loop.trips) (inb) (q : Fin 512) (j : Fin 128) (h : 512 * k.val + q.val < 4096) :
    View.ld X (Rect.unit (s := S4096x128) (k0_off1 k) S512x128.size inb) (ix2 q j) = X (ix2 ⟨512 * k.val + q.val, h⟩ j) :=
  View.ld_unit_apply_of X _ _ _ _ _ fun a => by
    match a with
    | ⟨0, _⟩ => show 512 * k.val + q.val = k0_off1 k 0 + q.val; rw [(off1_val k).1]
    | ⟨1, _⟩ => show j.val = k0_off1 k 1 + j.val; rw [(off1_val k).2]; omega

/-- A block of columns of one row. -/
theorem ld_cols (X : Vec Ideal S1x4096 .i32) (k : Fin k0_t1_loop.trips) (inb) (q : Fin 512) (h : 512 * k.val + q.val < 4096) :
    View.ld X (Rect.unit (s := S1x4096) (k0_off2 k) S1x512.size inb) (ix2 0 q) = X (ix2 0 ⟨512 * k.val + q.val, h⟩) :=
  View.ld_unit_apply_of X _ _ _ _ _ fun a => by
    match a with
    | ⟨0, _⟩ => show 0 = k0_off2 k 0 + 0; rw [(off2_val k).1]
    | ⟨1, _⟩ => show 512 * k.val + q.val = k0_off2 k 1 + q.val; rw [(off2_val k).2]

/-! ## One trip, and the loop -/

/-- One trip's pair: the running extremes joined with those of the block of columns. -/
def stepOf (a : BitVec 32) (v0 : Vec Ideal S256x128 .f32) (v4 v6 : Vec Ideal S256x1 .i32) (x1 : Vec Ideal S4096x128 .f32)
    (x4 x5 : Vec Ideal S1x4096 .i32) (k : Fin k0_t1_loop.trips) (acc : FVec Ideal S256x1 .f32 × FVec Ideal S256x1 .f32) :
    FVec Ideal S256x1 .f32 × FVec Ideal S256x1 .f32 :=
  (k0_pay11 acc.1 (k0_pay4 a v0 (k0_pay6 v0) (k0_pay7 v4) 0#32 1#32 k
      (View.ld x1 (Rect.unit (s := S4096x128) (k0_off1 k) S512x128.size (Facts₀.k0_off1_inb k)))
      (View.ld x4 (Rect.unit (s := S1x4096) (k0_off2 k) S1x512.size (Facts₀.k0_off2_inb k)))),
   k0_pay12 acc.2 (k0_pay2 v0 (k0_pay6 v0) (View.ld x1 (Rect.unit (s := S4096x128) (k0_off1 k) S512x128.size (Facts₀.k0_off1_inb k))))
     (k0_pay5 (k0_pay7 v4) (k0_pay8 v6)
      (View.ld x4 (Rect.unit (s := S1x4096) (k0_off2 k) S1x512.size (Facts₀.k0_off2_inb k)))
      (View.ld x5 (Rect.unit (s := S1x4096) (k0_off2 k) S1x512.size (Facts₀.k0_off2_inb k))))
     (Named.named κ "no_neg" 1900671690#32))

/-- What the body's trip computes from the whole arrays is `stepOf`. -/
theorem trip_eq (𝒱 : Variants) (c : Dev nD) (bd : Option 𝒱.V) (i : grid0.Coords) (arg1 : Memref sig .tc .vmem S256x128 .f32) (harg1 : arg1.IsWhole)
    (arg2 : Memref sig .tc .vmem S4096x128 .f32) (harg2 : arg2.IsWhole) (arg3 : Memref sig .tc .vmem S256x1 .i32) (harg3 : arg3.IsWhole)
    (arg4 : Memref sig .tc .vmem S256x1 .i32) (harg4 : arg4.IsWhole) (arg5 : Memref sig .tc .vmem S1x4096 .i32) (harg5 : arg5.IsWhole)
    (arg6 : Memref sig .tc .vmem S1x4096 .i32) (harg6 : arg6.IsWhole) (arg7 : Memref sig .tc .vmem S1x1x128 .f32) (harg7 : arg7.IsWhole)
    (a : BitVec 32) (v0 : Vec Ideal S256x128 .f32) (v4 v6 : Vec Ideal S256x1 .i32) (x1 : Vec Ideal S4096x128 .f32) (x4 x5 : Vec Ideal S1x4096 .i32)
    (k : Fin k0_t1_loop.trips) (acc : FVec Ideal S256x1 .f32 × FVec Ideal S256x1 .f32) :
    tripR_k0_t1 𝒱 c bd i arg1 harg1 arg2 harg2 arg3 harg3 arg4 harg4 arg5 harg5 arg6 harg6 arg7 harg7 a v0 v4 v6
        (harg2.unread x1) (harg5.unread x4) (harg6.unread x5) k acc
      = stepOf a v0 v4 v6 x1 x4 x5 k acc := by
  unfold tripR_k0_t1 trip_k0_t1
  dsimp only
  sl_unfold_words
  simp only [View.readAt_eq_ld, Memref.IsWhole.read_unread]
  rfl

/-- After all trips the pair holds, per row, the farthest positive and the nearest negative over all columns. -/
theorem loop_value (a : BitVec 32) (v0 : Vec Ideal S256x128 .f32) (v4 v6 : Vec Ideal S256x1 .i32) (x1 : Vec Ideal S4096x128 .f32)
    (x4 x5 : Vec Ideal S1x4096 .i32) (R : Fin 4096 → Fin 128 → ℝ) (hx : ∀ i k, x1 (ix2 i k) = (R i k : EReal)) (row : Fin 256 → Fin 4096)
    (h0 : ∀ r k, v0 (ix2 r k) = (R (row r) k : EReal)) (S : Nat → FVec Ideal S256x1 .f32 × FVec Ideal S256x1 .f32)
    (hz : S 0 = (k0_pay9, k0_pay10)) (hs : ∀ k : Fin k0_t1_loop.trips, S (k.val + 1) = stepOf a v0 v4 v6 x1 x4 x5 k (S k.val)) (r : Fin 256) :
    (S k0_t1_loop.trips).1 (ix2 r 0) = far (kp a v4 x4 r) (dist2 R (row r))
      ∧ (S k0_t1_loop.trips).2 (ix2 r 0) = near (kn v4 v6 x4 x5 r) (dist2 R (row r)) := by
  have ht : k0_t1_loop.trips = 8 := by decide
  have inv : ∀ k : Nat, k ≤ k0_t1_loop.trips →
      (∀ u : EReal, (S k).1 (ix2 r 0) ≤ u ↔ ∀ j : Fin 4096, j.val < 512 * k → Scalar.select (kp a v4 x4 r j) (dist2 R (row r) j : EReal) ⊥ ≤ u)
      ∧ (∀ u : EReal, u ≤ (S k).2 (ix2 r 0) ↔ ∀ j : Fin 4096, j.val < 512 * k → u ≤ Scalar.select (kn v4 v6 x4 x5 r j) (dist2 R (row r) j : EReal) ⊤) := by
    intro k
    induction k with
    | zero =>
      intro _
      rw [hz]
      refine ⟨fun u => ⟨fun _ j hj => by omega, fun _ => ?_⟩, fun u => ⟨fun _ j hj => by omega, fun _ => ?_⟩⟩
      · show (k0_pay9 (F := Ideal) (ix2 r 0) : EReal) ≤ u
        have : (k0_pay9 (F := Ideal) (ix2 r 0) : EReal) = ⊥ := by pointwise [k0_pay9]; exact no_pos
        rw [this]; exact bot_le
      · show u ≤ (k0_pay10 (F := Ideal) (ix2 r 0) : EReal)
        have : (k0_pay10 (F := Ideal) (ix2 r 0) : EReal) = ⊤ := by pointwise [k0_pay10]; exact no_neg
        rw [this]; exact le_top
    | succ k ih =>
      intro hk
      obtain ⟨ih1, ih2⟩ := ih (by omega)
      have e := hs ⟨k, by omega⟩
      have hd : ∀ (q : Fin 512) (h : 512 * k + q.val < 4096), k0_pay2 v0 (k0_pay6 v0)
          (View.ld x1 (Rect.unit (s := S4096x128) (k0_off1 ⟨k, by omega⟩) S512x128.size (Facts₀.k0_off1_inb ⟨k, by omega⟩))) (ix2 r q)
            = (dist2 R (row r) ⟨512 * k + q.val, h⟩ : EReal) := fun q h =>
        pay2_at v0 _ R r q (row r) _ (h0 r) fun j => by rw [ld_rows x1 ⟨k, by omega⟩ _ q j h]; exact hx _ j
      dsimp only at e
      rw [e]
      unfold stepOf
      refine ⟨fun u => ?_, fun u => ?_⟩
      · dsimp only
        rw [pay11_at]
        refine max_block (w := 512) (fun j => Scalar.select (kp a v4 x4 r j) (dist2 R (row r) j : EReal) ⊥) k _ _ ih1 (fun q h => ?_) (by omega) u
        exact pay4_at a v0 v4 ⟨k, by omega⟩ _ _ r q _ (ld_cols x4 ⟨k, by omega⟩ _ q h) _ (hd q h)
      · dsimp only
        rw [pay12_at]
        refine min_block (w := 512) (fun j => Scalar.select (kn v4 v6 x4 x5 r j) (dist2 R (row r) j : EReal) ⊤) k _ _ ih2 (fun q h => ?_) (by omega) u
        rw [pay5_at, hd q h, ld_cols x4 ⟨k, by omega⟩ _ q h, ld_cols x5 ⟨k, by omega⟩ _ q h]
        rfl
  obtain ⟨i1, i2⟩ := inv _ le_rfl
  exact ⟨eq_sup _ _ (512 * k0_t1_loop.trips) (by omega) i1, eq_inf _ _ (512 * k0_t1_loop.trips) (by omega) i2⟩

/-! ## The sums of a block of rows -/

/-- The block's sum of hinge terms. -/
theorem pay14_at (p n : FVec Ideal S256x1 .f32) (P N : Fin 256 → Fin 4096 → BitVec 1) (d : Fin 256 → Fin 4096 → ℝ) (hd : ∀ r j, 0 ≤ d r j)
    (hp : ∀ r, p (ix2 r 0) = far (P r) (d r)) (hn : ∀ r, n (ix2 r 0) = near (N r) (d r)) :
    k0_pay14 p n = ∑ r, hinge (P r) (N r) (d r) (Ideal.ofBits .f32 1061997773#32) := by
  have e : ∀ r, k0_pay13 p n (ix2 r 0) = tally (P r) (N r) := fun r => by
    rw [← tally_eq (P r) (N r) (d r), ← hp, ← hn]
    pointwise [k0_pay13]
    rfl
  pointwise [k0_pay14]
  refine Finset.sum_congr rfl fun r _ => ?_
  rw [Fin.sum_univ_one, ← hinge_eq (P r) (N r) (hd r), ← hp, ← hn, ← e]

/-- The block's count of rows that have both a positive and a negative. -/
theorem pay15_at (p n : FVec Ideal S256x1 .f32) (P N : Fin 256 → Fin 4096 → BitVec 1) (d : Fin 256 → Fin 4096 → ℝ)
    (hp : ∀ r, p (ix2 r 0) = far (P r) (d r)) (hn : ∀ r, n (ix2 r 0) = near (N r) (d r)) (r : Fin 256) :
    k0_pay15 p n (ix3 0 r 0) = tally (P r) (N r) := by
  rw [← tally_eq (P r) (N r) (d r), ← hp, ← hn]
  pointwise [k0_pay15, k0_pay13]
  rfl

/-- Lane 0 of the block's result is the sum. -/
theorem pay1_sum (s : Ideal .f32) (v : FVec Ideal S1x256x1 .f32) : k0_pay1 s v (ix3 0 0 0) = s := by
  pointwise [k0_pay1]

/-- Lane 1 of the block's result is the count. -/
theorem pay1_count (s : Ideal .f32) (v : FVec Ideal S1x256x1 .f32) : k0_pay1 s v (ix3 0 0 1) = ∑ r : Fin 256, v (ix3 0 r 0) := by
  pointwise [k0_pay1]
  refine (select_ne (by decide) _ _).trans ?_
  exact Finset.sum_congr rfl fun r _ => Fin.sum_univ_one _

end Cert.KernelIdeal.Hand

end
-- ==== Proof.KBlock.lean ====
/-
  A block of rows of the kernel: its sum of hinge terms and its count of valid rows, from the arrays its windows hold.
-/
module

public import proofs.«01_k».proof.Proof.KTrip

@[expose] public section

set_option maxRecDepth 16384

noncomputable section

namespace Cert.KernelIdeal.Hand

open Cert.KernelIdeal Cert.KernelIdeal.Gen Cert.Triplet
open Idealize.ShloMosaic Idealize.ShloMosaic.TcCoe Idealize.ShloMosaic.Tactic Idealize.ShloMosaic.Pipeline
open Idealize.SL.Sem

/-- The block's result is the lanes of the sum and the count of a sequence of pairs that starts at the empty extremes and
    steps by `stepOf`. -/
theorem out_eq (c : Dev nD) (i : grid0.Coords) (arg1 : Memref sig .tc .vmem S256x128 .f32) (harg1 : arg1.IsWhole)
    (arg2 : Memref sig .tc .vmem S4096x128 .f32) (harg2 : arg2.IsWhole) (arg3 : Memref sig .tc .vmem S256x1 .i32) (harg3 : arg3.IsWhole)
    (arg4 : Memref sig .tc .vmem S256x1 .i32) (harg4 : arg4.IsWhole) (arg5 : Memref sig .tc .vmem S1x4096 .i32) (harg5 : arg5.IsWhole)
    (arg6 : Memref sig .tc .vmem S1x4096 .i32) (harg6 : arg6.IsWhole) (arg7 : Memref sig .tc .vmem S1x1x128 .f32) (harg7 : arg7.IsWhole)
    (x0 : Vec Ideal S256x128 .f32) (x1 : Vec Ideal S4096x128 .f32) (x2 x3 : Vec Ideal S256x1 .i32) (x4 x5 : Vec Ideal S1x4096 .i32) :
    ∃ S : Nat → FVec Ideal S256x1 .f32 × FVec Ideal S256x1 .f32, S 0 = (k0_pay9, k0_pay10)
      ∧ (∀ k : Fin k0_t1_loop.trips, S (k.val + 1) = stepOf (BitVec.ofNat 32 (i 0).val) x0 x2 x3 x1 x4 x5 k (S k.val))
      ∧ out0_A_6 c i arg1 harg1 arg2 harg2 arg3 harg3 arg4 harg4 arg5 harg5 arg6 harg6 arg7 harg7 x0 x1 x2 x3 x4 x5
          = k0_pay1 (k0_pay14 (S k0_t1_loop.trips).1 (S k0_t1_loop.trips).2) (k0_pay15 (S k0_t1_loop.trips).1 (S k0_t1_loop.trips).2) := by
  refine ⟨st_k0_t1 Variants.none c none i arg1 harg1 arg2 harg2 arg3 harg3 arg4 harg4 arg5 harg5 arg6 harg6 arg7 harg7 (BitVec.ofNat 32 (i 0).val)
    x0 x2 x3 (harg2.unread x1) (harg5.unread x4) (harg6.unread x5) (k0_pay9, k0_pay10), st_k0_t1_zero .., fun k => ?_, ?_⟩
  · rw [st_k0_t1_succ, trip_eq]
  · frame_out

/-- The sum of the hinge terms of a block of rows, in lane 0, and its count of valid rows, in lane 1. -/
theorem block_value (c : Dev nD) (i : grid0.Coords) (arg1 : Memref sig .tc .vmem S256x128 .f32) (harg1 : arg1.IsWhole)
    (arg2 : Memref sig .tc .vmem S4096x128 .f32) (harg2 : arg2.IsWhole) (arg3 : Memref sig .tc .vmem S256x1 .i32) (harg3 : arg3.IsWhole)
    (arg4 : Memref sig .tc .vmem S256x1 .i32) (harg4 : arg4.IsWhole) (arg5 : Memref sig .tc .vmem S1x4096 .i32) (harg5 : arg5.IsWhole)
    (arg6 : Memref sig .tc .vmem S1x4096 .i32) (harg6 : arg6.IsWhole) (arg7 : Memref sig .tc .vmem S1x1x128 .f32) (harg7 : arg7.IsWhole)
    (x0 : Vec Ideal S256x128 .f32) (x1 : Vec Ideal S4096x128 .f32) (x2 x3 : Vec Ideal S256x1 .i32) (x4 x5 : Vec Ideal S1x4096 .i32)
    (R : Fin 4096 → Fin 128 → ℝ) (hx : ∀ i k, x1 (ix2 i k) = (R i k : EReal)) (row : Fin 256 → Fin 4096)
    (h0 : ∀ r k, x0 (ix2 r k) = (R (row r) k : EReal)) (P N : Fin 256 → Fin 4096 → BitVec 1)
    (hP : ∀ r j, kp (BitVec.ofNat 32 (i 0).val) x2 x4 r j = P r j) (hN : ∀ r j, kn x2 x3 x4 x5 r j = N r j) :
    out0_A_6 c i arg1 harg1 arg2 harg2 arg3 harg3 arg4 harg4 arg5 harg5 arg6 harg6 arg7 harg7 x0 x1 x2 x3 x4 x5 (ix3 0 0 0)
        = ∑ r, hinge (P r) (N r) (dist2 R (row r)) (Ideal.ofBits .f32 1061997773#32)
      ∧ out0_A_6 c i arg1 harg1 arg2 harg2 arg3 harg3 arg4 harg4 arg5 harg5 arg6 harg6 arg7 harg7 x0 x1 x2 x3 x4 x5 (ix3 0 0 1)
        = ∑ r, tally (P r) (N r) := by
  obtain ⟨S, hz, hs, e⟩ := out_eq c i arg1 harg1 arg2 harg2 arg3 harg3 arg4 harg4 arg5 harg5 arg6 harg6 arg7 harg7 x0 x1 x2 x3 x4 x5
  have hv := loop_value _ x0 x2 x3 x1 x4 x5 R hx row h0 S hz hs
  have hp : ∀ r, (S k0_t1_loop.trips).1 (ix2 r 0) = far (P r) (dist2 R (row r)) := fun r => by
    rw [(hv r).1]; exact congrArg (fun p => far p _) (funext (hP r))
  have hn : ∀ r, (S k0_t1_loop.trips).2 (ix2 r 0) = near (N r) (dist2 R (row r)) := fun r => by
    rw [(hv r).2]; exact congrArg (fun p => near p _) (funext (hN r))
  rw [e]
  refine ⟨(pay1_sum _ _).trans (pay14_at _ _ P N _ (fun r j => dist2_nonneg R (row r) j) hp hn), (pay1_count _ _).trans ?_⟩
  exact Finset.sum_congr rfl fun r _ => pay15_at _ _ P N _ hp hn r

end Cert.KernelIdeal.Hand

end
-- ==== Proof.KEntry.lean ====
/-
  What the kernel's windows hold: the embeddings, the combined keys subject * 8 + label, and the subjects, by rows and by columns.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Pipeline
open Idealize.SL.Sem

/-- The combined key of a row: subject * 8 + label. -/
def key (l s : Vec Ideal S4096 .i32) (i : Fin 4096) : BitVec 32 := IntOp.addi (IntOp.muli (s (ix1 i)) 8#32) (l (ix1 i))

/-- The windows' block indices at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0, 0] := by
  decide +kernel

theorem coords_val : ∀ t : Fin cfg0.N, (grid0.coords t 0).val = t.val := by decide +kernel

variable (m : (ℓ : Loc nD τ sig) → Buf (Elt Ideal) ℓ) (c : Dev nD)

theorem row_lt (t : Fin cfg0.N) (r : Fin 256) : 256 * t.val + r.val < 4096 := by
  have := t.isLt; have : cfg0.N = 16 := by decide
  omega

/-! ## The host's reshaped operands -/

theorem V_v4_at (i : Fin 4096) : V m c main_v4 (ix2 i 0) = m ((c : Thread nD τ).loc main_arg2) (ix1 i) := by
  unfold V V0
  simp only [List.flatten_cons, List.flatten_nil, List.append_nil]
  after_results_simp
  pointwise

theorem V_v6_at (i : Fin 4096) : V m c main_v6 (ix2 0 i) = m ((c : Thread nD τ).loc main_arg2) (ix1 i) := by
  unfold V V0
  simp only [List.flatten_cons, List.flatten_nil, List.append_nil]
  after_results_simp
  pointwise

theorem V_v3_at (i : Fin 4096) :
    V m c main_v3 (ix2 i 0) = key (m ((c : Thread nD τ).loc main_arg1)) (m ((c : Thread nD τ).loc main_arg2)) i := by
  unfold V V0
  simp only [List.flatten_cons, List.flatten_nil, List.append_nil]
  after_results_simp
  pointwise [key]

theorem V_v5_at (i : Fin 4096) :
    V m c main_v5 (ix2 0 i) = key (m ((c : Thread nD τ).loc main_arg1)) (m ((c : Thread nD τ).loc main_arg2)) i := by
  unfold V V0
  simp only [List.flatten_cons, List.flatten_nil, List.append_nil]
  after_results_simp
  pointwise [key]

/-! ## The windows' blocks -/

theorem iblk0_at (t : Fin cfg0.N) (r : Fin 256) (k : Fin 128) :
    iblk m c 0 t (ix2 r k) = m ((c : Thread nD τ).loc main_arg0) (ix2 ⟨256 * t.val + r.val, row_lt t r⟩ k) := by
  blk_ext [iblk, V, idx t]

theorem iblk1_at (t : Fin cfg0.N) (r : Fin 4096) (k : Fin 128) :
    iblk m c 1 t (ix2 r k) = m ((c : Thread nD τ).loc main_arg0) (ix2 r k) := by
  blk_ext [iblk, V, idx t]

theorem iblk2_at (t : Fin cfg0.N) (r : Fin 256) :
    iblk m c 2 t (ix2 r 0)
      = key (m ((c : Thread nD τ).loc main_arg1)) (m ((c : Thread nD τ).loc main_arg2)) ⟨256 * t.val + r.val, row_lt t r⟩ := by
  rw [← V_v3_at]
  blk_ext [iblk, idx t]

theorem iblk3_at (t : Fin cfg0.N) (r : Fin 256) :
    iblk m c 3 t (ix2 r 0) = m ((c : Thread nD τ).loc main_arg2) (ix1 ⟨256 * t.val + r.val, row_lt t r⟩) := by
  rw [← V_v4_at m c]
  blk_ext [iblk, idx t]

theorem iblk4_at (t : Fin cfg0.N) (j : Fin 4096) :
    iblk m c 4 t (ix2 0 j) = key (m ((c : Thread nD τ).loc main_arg1)) (m ((c : Thread nD τ).loc main_arg2)) j := by
  rw [← V_v5_at]
  blk_ext [iblk, idx t]

theorem iblk5_at (t : Fin cfg0.N) (j : Fin 4096) :
    iblk m c 5 t (ix2 0 j) = m ((c : Thread nD τ).loc main_arg2) (ix1 j) := by
  rw [← V_v6_at m c]
  blk_ext [iblk, idx t]

end Cert.KernelIdeal.Hand

end
-- ==== Proof.RefRun.lean ====
/-
  The run of the reference over the reals: its operations as one straight line in six segments, what each segment
  computes as a function of the arrays it reads, and the whole run: the result, the arguments unchanged and every
  semaphore counter at zero.
-/
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.Init

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## What each segment computes -/

/-- The distances between all pairs of rows, by the squared norms and the product of the array with its transpose. -/
def refD (x : FVec F S4096x128 .f32) : FVec F S4096x4096 .f32 :=
  let sq : FVec F S4096 .f32 := Host.reduceAdd (mulf x x) (constant S_ .f32 0x00000000#32) reducesTo_S4096x128_S4096_d1 h_S_
  Host.sqrt (maximumf (broadcastInDim S4096x4096 ![] bcast_S_S4096x4096 (constant S_ .f32 0x00000000#32))
    (subf
      (addf (broadcastInDim S4096x4096 ![0, 1] bcast_S4096x1_S4096x4096_0_1 (broadcastInDim S4096x1 ![0] bcast_S4096_S4096x1_0 sq))
        (broadcastInDim S4096x4096 ![0, 1] bcast_S1x4096_S4096x4096_0_1 (broadcastInDim S1x4096 ![1] bcast_S4096_S1x4096_1 sq)))
      (mulf (broadcastInDim S4096x4096 ![] bcast_S_S4096x4096 (constant S_ .f32 0x40000000#32))
        (Host.dotGeneral dot_S4096x128_S128x4096_S4096x4096_1_0_0_1_n_n none x
          (transpose S128x4096 [1, 0] x transposes_S4096x128_S128x4096_1_0)))))

/-- Where the entries of an integer array at the row and at the column agree. -/
def refSame (s : IVec S4096 32) : IVec S4096x4096 1 :=
  cmpi .eq (broadcastInDim S4096x4096 ![0, 1] bcast_S4096x1_S4096x4096_0_1 (broadcastInDim S4096x1 ![0] bcast_S4096_S4096x1_0 s))
    (broadcastInDim S4096x4096 ![0, 1] bcast_S1x4096_S4096x4096_0_1 (broadcastInDim S1x4096 ![1] bcast_S4096_S1x4096_1 s))

/-- The positives: same subject, same label, not the row itself. -/
def refPos (l s : IVec S4096 32) : IVec S4096x4096 1 :=
  andi (andi (refSame s) (refSame l))
    (noti (cmpi .eq (addi (iotaInDim S4096x4096 32 0) (broadcastInDim S4096x4096 ![] bcast_S_S4096x4096 (constantI S_ 32 0#32)))
      (iotaInDim S4096x4096 32 1)))

/-- The negatives: same subject, another label. -/
def refNeg (l s : IVec S4096 32) : IVec S4096x4096 1 :=
  andi (refSame s) (noti (refSame l))

/-- The rows with a positive and a negative. -/
def refValid (l s : IVec S4096 32) : IVec S4096 1 :=
  andi (Host.reduce IntOp.ori (refPos l s) (constantI S_ 1 0#1) reducesTo_S4096x4096_S4096_d1 h_S_)
    (Host.reduce IntOp.ori (refNeg l s) (constantI S_ 1 0#1) reducesTo_S4096x4096_S4096_d1 h_S_)

/-- The second entries of an array of pairs. -/
def seconds {s : Shape} {α β : Type} (f : s.Idx → α × β) : s.Idx → β := fun j => (f j).2

/-- The position of the largest masked distance of each row. -/
def refArgmax (p : IVec S4096x4096 1) (d : FVec F S4096x4096 .f32) : IVec S4096 32 := seconds
  (Host.argReduce reducer_argmax_f32_i32
    (select p d (broadcastInDim S4096x4096 ![] bcast_S_S4096x4096 (constant S_ .f32 0xFF800000#32)))
    (iotaInDim S4096x4096 32 1) (constant S_ .f32 0xFF800000#32) (constantI S_ 32 0#32) reducesTo_S4096x4096_S4096_d1 h_S_)

/-- The position of the smallest masked distance of each row. -/
def refArgmin (n : IVec S4096x4096 1) (d : FVec F S4096x4096 .f32) : IVec S4096 32 := seconds
  (Host.argReduce reducer_argmin_f32_i32
    (select n d (broadcastInDim S4096x4096 ![] bcast_S_S4096x4096 (constant S_ .f32 0x7F800000#32)))
    (iotaInDim S4096x4096 32 1) (constant S_ .f32 0x7F800000#32) (constantI S_ 32 0#32) reducesTo_S4096x4096_S4096_d1 h_S_)

/-- The table of row numbers that a take reads: a negative index counted from the end. -/
def refIdx (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 4096#32))) i)

/-- The rows of an array at given positions; a position outside the array gives the fill value. -/
def refTake (x : FVec F S4096x128 .f32) (i : IVec S4096 32) : FVec F S4096x128 .f32 :=
  select
    (broadcastInDim S4096x128 ![0] bcast_S4096_S4096x128_0
      (Host.reduce IntOp.andi
        (andi (cmpi .sge (refIdx i) (broadcastInDim S4096x1 ![] bcast_S_S4096x1 (constantI S_ 32 0#32)))
          (cmpi .sle (refIdx i)
            (broadcastInDim S4096x1 ![0, 1] bcast_S1x1_S4096x1_0_1 (broadcastInDim S1x1 ![1] bcast_S1_S1x1_1 (constantI S1 32 4095#32)))))
        (constantI S_ 1 1#1) reducesTo_S4096x1_S4096_d1 h_S_))
    (Host.gather gather_S4096x128_S4096x1_S4096x128_1_0_n_n_0_1_1128 x (refIdx i))
    (broadcastInDim S4096x128 ![] bcast_S_S4096x128 (constant S_ .f32 0x7FC00000#32))

/-- The norm of each row of a difference. -/
def refNorm (x y : FVec F S4096x128 .f32) : FVec F S4096 .f32 :=
  Host.sqrt (Host.reduceAdd (mulf (subf x y) (subf x y)) (constant S_ .f32 0x00000000#32) reducesTo_S4096x128_S4096_d1 h_S_)

/-- The mean of the hinge over the valid rows. -/
def refLoss (v : IVec S4096 1) (dp dn : FVec F S4096 .f32) : FVec F S_ .f32 :=
  Host.divf
    (Host.reduceAdd
      (select v
        (maximumf (addf (subf dp dn) (broadcastInDim S4096 ![] bcast_S_S4096 (constant S_ .f32 0x3F4CCCCD#32)))
          (broadcastInDim S4096 ![] bcast_S_S4096 (constant S_ .f32 0x00000000#32)))
        (broadcastInDim S4096 ![] bcast_S_S4096 (constant S_ .f32 0x00000000#32)))
      (constant S_ .f32 0x00000000#32) reducesTo_S4096_S_d0 h_S_)
    (maximumf (Host.reduceAdd (uitofp .f32 v) (constant S_ .f32 0x00000000#32) reducesTo_S4096_S_d0 h_S_)
      (constant S_ .f32 0x3F800000#32))

/-- The reference's result as a function of its three arguments. -/
def refOut (x : FVec F S4096x128 .f32) (l s : IVec S4096 32) : FVec F S_ .f32 :=
  refLoss (refValid l s) (refNorm x (refTake x (refArgmax (refPos l s) (refD x))))
    (refNorm x (refTake x (refArgmin (refNeg l s) (refD x))))

/-! ## The operations -/

/-- The operations that compute the pairwise distances, in order. -/
abbrev opsD : List (HloOp τ sig (Elt F)) :=
  [ binary main_arg0 main_arg0 main_v0 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v0 main_cst main_v1 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg0 main_v7 ((transpose S128x4096 [1, 0] · transposes_S4096x128_S128x4096_1_0) : (⟨S4096x128, .f32⟩ : BufTy).Contents (Elt F) → (⟨S128x4096, .f32⟩ : BufTy).Contents (Elt F)),
    binary main_arg0 main_v7 main_v8 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x00000000#32),
    TRef.unary (.of main_cst_1) main_call0.v0 id,
    TRef.unary main_call0.v0 main_call0.v1 (broadcastInDim S4096x4096 ![] bcast_S_S4096x4096),
    TRef.binary main_call0.v1 (.of main_v11) main_call0.v2 maximumf,
    unary main_v12 main_v13 (Host.sqrt : (⟨S4096x4096, .f32⟩ : BufTy).Contents (Elt F) → (⟨S4096x4096, .f32⟩ : BufTy).Contents (Elt F)) ]

/-- The operations that compute the masks and the valid rows, in order. -/
abbrev opsM : List (HloOp τ sig (Elt F)) :=
  [ unary main_arg2 main_v14 (broadcastInDim S4096x1 ![0] bcast_S4096_S4096x1_0 : (⟨S4096, .i32⟩ : BufTy).Contents (Elt F) → (⟨S4096x1, .i32⟩ : BufTy).Contents (Elt F)),
    unary main_arg2 main_v15 (broadcastInDim S1x4096 ![1] bcast_S4096_S1x4096_1 : (⟨S4096, .i32⟩ : BufTy).Contents (Elt F) → (⟨S1x4096, .i32⟩ : BufTy).Contents (Elt F)),
    unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    binary main_v16 main_v17 main_v18 (cmpi .eq : (⟨S4096x4096, .i32⟩ : BufTy).Contents (Elt F) → (⟨S4096x4096, .i32⟩ : BufTy).Contents (Elt F) → (⟨S4096x4096, .i1⟩ : BufTy).Contents (Elt F)),
    unary main_arg1 main_v19 (broadcastInDim S4096x1 ![0] bcast_S4096_S4096x1_0 : (⟨S4096, .i32⟩ : BufTy).Contents (Elt F) → (⟨S4096x1, .i32⟩ : BufTy).Contents (Elt F)),
    unary main_arg1 main_v20 (broadcastInDim S1x4096 ![1] bcast_S4096_S1x4096_1 : (⟨S4096, .i32⟩ : BufTy).Contents (Elt F) → (⟨S1x4096, .i32⟩ : BufTy).Contents (Elt F)),
    unary main_v19 main_v21 (broadcastInDim S4096x4096 ![0, 1] bcast_S4096x1_S4096x4096_0_1 : (⟨S4096x1, .i32⟩ : BufTy).Contents (Elt F) → (⟨S4096x4096, .i32⟩ : BufTy).Contents (Elt F)),
    unary main_v20 main_v22 (broadcastInDim S4096x4096 ![0, 1] bcast_S1x4096_S4096x4096_0_1 : (⟨S1x4096, .i32⟩ : BufTy).Contents (Elt F) → (⟨S4096x4096, .i32⟩ : BufTy).Contents (Elt F)),
    binary main_v21 main_v22 main_v23 (cmpi .eq : (⟨S4096x4096, .i32⟩ : BufTy).Contents (Elt F) → (⟨S4096x4096, .i32⟩ : BufTy).Contents (Elt F) → (⟨S4096x4096, .i1⟩ : BufTy).Contents (Elt F)),
    nullary main_v24 (iotaInDim S4096x4096 32 0),
    nullary main_v25 (iotaInDim S4096x4096 32 1),
    nullary main_c (constantI S_ 32 0#32),
    unary main_c main_v26 (broadcastInDim S4096x4096 ![] bcast_S_S4096x4096 : (⟨S_, .i32⟩ : BufTy).Contents (Elt F) → (⟨S4096x4096, .i32⟩ : BufTy).Contents (Elt F)),
    binary main_v24 main_v26 main_v27 (addi : (⟨S4096x4096, .i32⟩ : BufTy).Contents (Elt F) → (⟨S4096x4096, .i32⟩ : BufTy).Contents (Elt F) → (⟨S4096x4096, .i32⟩ : BufTy).Contents (Elt F)),
    binary main_v27 main_v25 main_v28 (cmpi .eq : (⟨S4096x4096, .i32⟩ : BufTy).Contents (Elt F) → (⟨S4096x4096, .i32⟩ : BufTy).Contents (Elt F) → (⟨S4096x4096, .i1⟩ : BufTy).Contents (Elt F)),
    binary main_v18 main_v23 main_v29 (andi : (⟨S4096x4096, .i1⟩ : BufTy).Contents (Elt F) → (⟨S4096x4096, .i1⟩ : BufTy).Contents (Elt F) → (⟨S4096x4096, .i1⟩ : BufTy).Contents (Elt F)),
    unary main_v28 main_v30 (noti : (⟨S4096x4096, .i1⟩ : BufTy).Contents (Elt F) → (⟨S4096x4096, .i1⟩ : BufTy).Contents (Elt F)),
    binary main_v29 main_v30 main_v31 (andi : (⟨S4096x4096, .i1⟩ : BufTy).Contents (Elt F) → (⟨S4096x4096, .i1⟩ : BufTy).Contents (Elt F) → (⟨S4096x4096, .i1⟩ : BufTy).Contents (Elt F)),
    unary main_v23 main_v32 (noti : (⟨S4096x4096, .i1⟩ : BufTy).Contents (Elt F) → (⟨S4096x4096, .i1⟩ : BufTy).Contents (Elt F)),
    binary main_v18 main_v32 main_v33 (andi : (⟨S4096x4096, .i1⟩ : BufTy).Contents (Elt F) → (⟨S4096x4096, .i1⟩ : BufTy).Contents (Elt F) → (⟨S4096x4096, .i1⟩ : BufTy).Contents (Elt F)),
    nullary main_c_2 (constantI S_ 1 0#1),
    binary main_v31 main_c_2 main_v34 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_c_3 (constantI S_ 1 0#1),
    binary main_v33 main_c_3 main_v35 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    binary main_v34 main_v35 main_v36 (andi : (⟨S4096, .i1⟩ : BufTy).Contents (Elt F) → (⟨S4096, .i1⟩ : BufTy).Contents (Elt F) → (⟨S4096, .i1⟩ : BufTy).Contents (Elt F)) ]

/-- The operations that compute the two index reductions, in order. -/
abbrev opsI : List (HloOp τ sig (Elt F)) :=
  [ nullary main_cst_4 (constant S_ .f32 0xFF800000#32),
    TRef.unary (.of main_cst_4) main_call1.v0 id,
    TRef.unary main_call1.v0 main_call1.v1 (broadcastInDim S4096x4096 ![] bcast_S_S4096x4096),
    TRef.ternary (.of main_v31) (.of main_v13) main_call1.v1 main_call1.v2 select,
    TRef.nullary main_call2.v0 (iotaInDim S4096x4096 32 1),
    TRef.nullary main_call2.cst (constant S_ .f32 0xFF800000#32),
    TRef.nullary main_call2.c (constantI S_ 32 0#32),
    TRef.quaternary (.of main_v37) main_call2.v0 main_call2.cst main_call2.c main_call2.v1_0 (fun x y u v j => (Host.argReduce reducer_argmax_f32_i32 x y u v reducesTo_S4096x4096_S4096_d1 h_S_ j).1),
    TRef.quaternary (.of main_v37) main_call2.v0 main_call2.cst main_call2.c main_call2.v1_1 (fun x y u v j => (Host.argReduce reducer_argmax_f32_i32 x y u v reducesTo_S4096x4096_S4096_d1 h_S_ j).2),
    nullary main_cst_5 (constant S_ .f32 0x7F800000#32),
    TRef.unary (.of main_cst_5) main_call3.v0 id,
    TRef.unary main_call3.v0 main_call3.v1 (broadcastInDim S4096x4096 ![] bcast_S_S4096x4096),
    TRef.ternary (.of main_v33) (.of main_v13) main_call3.v1 main_call3.v2 select,
    TRef.nullary main_call4.v0 (iotaInDim S4096x4096 32 1),
    TRef.nullary main_call4.cst (constant S_ .f32 0x7F800000#32),
    TRef.nullary main_call4.c (constantI S_ 32 0#32),
    TRef.quaternary (.of main_v39) main_call4.v0 main_call4.cst main_call4.c main_call4.v1_0 (fun x y u v j => (Host.argReduce reducer_argmin_f32_i32 x y u v reducesTo_S4096x4096_S4096_d1 h_S_ j).1),
    TRef.quaternary (.of main_v39) main_call4.v0 main_call4.cst main_call4.c main_call4.v1_1 (fun x y u v j => (Host.argReduce reducer_argmin_f32_i32 x y u v reducesTo_S4096x4096_S4096_d1 h_S_ j).2) ]

/-- The operations that compute the two row takes, in order. -/
abbrev opsT : List (HloOp τ sig (Elt F)) :=
  [ TRef.nullary main_call5.c (constantI S_ 32 0#32),
    TRef.unary main_call5.c main_call5.v0 (broadcastInDim S4096 ![] bcast_S_S4096),
    TRef.binary (.of main_v38) main_call5.v0 main_call5.v1 (cmpi .slt),
    TRef.nullary main_call5.c_0 (constantI S_ 32 4096#32),
    TRef.unary main_call5.c_0 main_call5.v2 (broadcastInDim S4096 ![] bcast_S_S4096),
    TRef.binary (.of main_v38) main_call5.v2 main_call5.v3 addi,
    TRef.ternary main_call5.v1 main_call5.v3 (.of main_v38) main_call5.call0.v0 select,
    TRef.unary main_call5.call0.v0 main_call5.v5 (broadcastInDim S4096x1 ![0] bcast_S4096_S4096x1_0),
    TRef.nullary main_call5.c_1 (constantI S1 32 4095#32),
    TRef.nullary main_call5.c_2 (constantI S_ 32 0#32),
    TRef.unary main_call5.c_2 main_call5.v6 (broadcastInDim S4096x1 ![] bcast_S_S4096x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S4096x1 ![0, 1] bcast_S1x1_S4096x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S4096x1_S4096_d1 h_S_),
    TRef.binary (.of main_arg0) main_call5.v5 main_call5.v13 (fun x i => Host.gather gather_S4096x128_S4096x1_S4096x128_1_0_n_n_0_1_1128 x i),
    TRef.unary main_call5.v12 main_call5.v14 (broadcastInDim S4096x128 ![0] bcast_S4096_S4096x128_0),
    TRef.nullary main_call5.cst (constant S_ .f32 0x7FC00000#32),
    TRef.unary main_call5.cst main_call5.v15 (broadcastInDim S4096x128 ![] bcast_S_S4096x128),
    TRef.ternary main_call5.v14 main_call5.v13 main_call5.v15 main_call5.v16 select,
    TRef.nullary main_call6.c (constantI S_ 32 0#32),
    TRef.unary main_call6.c main_call6.v0 (broadcastInDim S4096 ![] bcast_S_S4096),
    TRef.binary (.of main_v40) main_call6.v0 main_call6.v1 (cmpi .slt),
    TRef.nullary main_call6.c_0 (constantI S_ 32 4096#32),
    TRef.unary main_call6.c_0 main_call6.v2 (broadcastInDim S4096 ![] bcast_S_S4096),
    TRef.binary (.of main_v40) main_call6.v2 main_call6.v3 addi,
    TRef.ternary main_call6.v1 main_call6.v3 (.of main_v40) main_call6.call0.v0 select,
    TRef.unary main_call6.call0.v0 main_call6.v5 (broadcastInDim S4096x1 ![0] bcast_S4096_S4096x1_0),
    TRef.nullary main_call6.c_1 (constantI S1 32 4095#32),
    TRef.nullary main_call6.c_2 (constantI S_ 32 0#32),
    TRef.unary main_call6.c_2 main_call6.v6 (broadcastInDim S4096x1 ![] bcast_S_S4096x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S4096x1 ![0, 1] bcast_S1x1_S4096x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S4096x1_S4096_d1 h_S_),
    TRef.binary (.of main_arg0) main_call6.v5 main_call6.v13 (fun x i => Host.gather gather_S4096x128_S4096x1_S4096x128_1_0_n_n_0_1_1128 x i),
    TRef.unary main_call6.v12 main_call6.v14 (broadcastInDim S4096x128 ![0] bcast_S4096_S4096x128_0),
    TRef.nullary main_call6.cst (constant S_ .f32 0x7FC00000#32),
    TRef.unary main_call6.cst main_call6.v15 (broadcastInDim S4096x128 ![] bcast_S_S4096x128),
    TRef.ternary main_call6.v14 main_call6.v13 main_call6.v15 main_call6.v16 select ]

/-- The operations that compute the two norms, in order. -/
abbrev opsN : List (HloOp τ sig (Elt F)) :=
  [ binary main_arg0 main_v41 main_v43 (subf : (⟨S4096x128, .f32⟩ : BufTy).Contents (Elt F) → (⟨S4096x128, .f32⟩ : BufTy).Contents (Elt F) → (⟨S4096x128, .f32⟩ : BufTy).Contents (Elt F)),
    TRef.binary (.of main_v43) (.of main_v43) main_call7.v0 mulf,
    TRef.nullary main_call7.cst (constant S_ .f32 0x00000000#32),
    TRef.binary main_call7.v0 main_call7.cst main_call7.v1 (fun x v => Host.reduceAdd x v reducesTo_S4096x128_S4096_d1 h_S_),
    TRef.unary main_call7.v1 main_call7.v2 Host.sqrt,
    binary main_arg0 main_v42 main_v45 (subf : (⟨S4096x128, .f32⟩ : BufTy).Contents (Elt F) → (⟨S4096x128, .f32⟩ : BufTy).Contents (Elt F) → (⟨S4096x128, .f32⟩ : BufTy).Contents (Elt F)),
    TRef.binary (.of main_v45) (.of main_v45) main_call8.v0 mulf,
    TRef.nullary main_call8.cst (constant S_ .f32 0x00000000#32),
    TRef.binary main_call8.v0 main_call8.cst main_call8.v1 (fun x v => Host.reduceAdd x v reducesTo_S4096x128_S4096_d1 h_S_),
    TRef.unary main_call8.v1 main_call8.v2 Host.sqrt ]

/-- The operations that compute the loss, in order. -/
abbrev opsZ : List (HloOp τ sig (Elt F)) :=
  [ binary main_v44 main_v46 main_v47 (subf : (⟨S4096, .f32⟩ : BufTy).Contents (Elt F) → (⟨S4096, .f32⟩ : BufTy).Contents (Elt F) → (⟨S4096, .f32⟩ : BufTy).Contents (Elt F)),
    nullary main_cst_6 (constant S_ .f32 0x3F4CCCCD#32),
    unary main_cst_6 main_v48 (broadcastInDim S4096 ![] bcast_S_S4096 : (⟨S_, .f32⟩ : BufTy).Contents (Elt F) → (⟨S4096, .f32⟩ : BufTy).Contents (Elt F)),
    binary main_v47 main_v48 main_v49 (addf : (⟨S4096, .f32⟩ : BufTy).Contents (Elt F) → (⟨S4096, .f32⟩ : BufTy).Contents (Elt F) → (⟨S4096, .f32⟩ : BufTy).Contents (Elt F)),
    nullary main_cst_7 (constant S_ .f32 0x00000000#32),
    unary main_cst_7 main_v50 (broadcastInDim S4096 ![] bcast_S_S4096 : (⟨S_, .f32⟩ : BufTy).Contents (Elt F) → (⟨S4096, .f32⟩ : BufTy).Contents (Elt F)),
    binary main_v49 main_v50 main_v51 (maximumf : (⟨S4096, .f32⟩ : BufTy).Contents (Elt F) → (⟨S4096, .f32⟩ : BufTy).Contents (Elt F) → (⟨S4096, .f32⟩ : BufTy).Contents (Elt F)),
    unary main_v36 main_v52 (uitofp .f32 : (⟨S4096, .i1⟩ : BufTy).Contents (Elt F) → (⟨S4096, .f32⟩ : BufTy).Contents (Elt F)),
    nullary main_cst_8 (constant S_ .f32 0x00000000#32),
    binary main_v52 main_cst_8 main_v53 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_9 (constant S_ .f32 0x00000000#32),
    TRef.unary (.of main_cst_9) main_call9.v0 id,
    TRef.unary main_call9.v0 main_call9.v1 (broadcastInDim S4096 ![] bcast_S_S4096),
    TRef.ternary (.of main_v36) (.of main_v51) main_call9.v1 main_call9.v2 select,
    nullary main_cst_10 (constant S_ .f32 0x00000000#32),
    binary main_v54 main_cst_10 main_v55 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_11 (constant S_ .f32 0x3F800000#32),
    binary main_v53 main_cst_11 main_v56 (maximumf : (⟨S_, .f32⟩ : BufTy).Contents (Elt F) → (⟨S_, .f32⟩ : BufTy).Contents (Elt F) → (⟨S_, .f32⟩ : BufTy).Contents (Elt F)),
    binary main_v55 main_v56 main_v57 (Host.divf : (⟨S_, .f32⟩ : BufTy).Contents (Elt F) → (⟨S_, .f32⟩ : BufTy).Contents (Elt F) → (⟨S_, .f32⟩ : BufTy).Contents (Elt F)) ]

theorem opsD_sub : (opsD : List (HloOp τ sig (Elt F))).Forall fun op => op.bufs ⊆ tcRefs τ sig :=
  ⟨binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., unary_bufs_sub .., binary_bufs_sub ..,
    unary_bufs_sub ..⟩

theorem opsM_sub : (opsM : List (HloOp τ sig (Elt F))).Forall fun op => op.bufs ⊆ tcRefs τ sig :=
  ⟨unary_bufs_sub .., unary_bufs_sub .., unary_bufs_sub .., unary_bufs_sub .., binary_bufs_sub .., unary_bufs_sub ..,
    unary_bufs_sub .., unary_bufs_sub .., unary_bufs_sub .., binary_bufs_sub .., nullary_bufs_sub .., nullary_bufs_sub ..,
    nullary_bufs_sub .., unary_bufs_sub .., binary_bufs_sub .., binary_bufs_sub .., binary_bufs_sub .., unary_bufs_sub ..,
    binary_bufs_sub .., unary_bufs_sub .., binary_bufs_sub .., nullary_bufs_sub .., binary_bufs_sub .., nullary_bufs_sub ..,
    binary_bufs_sub .., binary_bufs_sub ..⟩

theorem opsI_sub : (opsI : List (HloOp τ sig (Elt F))).Forall fun op => op.bufs ⊆ tcRefs τ sig :=
  ⟨nullary_bufs_sub .., unary_bufs_sub .., unary_bufs_sub .., ternary_bufs_sub .., nullary_bufs_sub .., nullary_bufs_sub ..,
    nullary_bufs_sub .., quaternary_bufs_sub .., quaternary_bufs_sub .., nullary_bufs_sub .., unary_bufs_sub .., unary_bufs_sub ..,
    ternary_bufs_sub .., nullary_bufs_sub .., nullary_bufs_sub .., nullary_bufs_sub .., quaternary_bufs_sub .., quaternary_bufs_sub ..⟩

theorem opsT_sub : (opsT : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩

theorem opsN_sub : (opsN : List (HloOp τ sig (Elt F))).Forall fun op => op.bufs ⊆ tcRefs τ sig :=
  ⟨binary_bufs_sub .., binary_bufs_sub .., nullary_bufs_sub .., binary_bufs_sub .., unary_bufs_sub .., binary_bufs_sub ..,
    binary_bufs_sub .., nullary_bufs_sub .., binary_bufs_sub .., unary_bufs_sub ..⟩

theorem opsZ_sub : (opsZ : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., unary_bufs_sub .., nullary_bufs_sub .., binary_bufs_sub .., nullary_bufs_sub .., unary_bufs_sub ..,
    unary_bufs_sub .., ternary_bufs_sub .., nullary_bufs_sub .., binary_bufs_sub .., nullary_bufs_sub .., binary_bufs_sub ..,
    binary_bufs_sub ..⟩

/-! ## The segments' results -/

theorem opsD_dist (V : Valuation τ sig (Elt F)) :
    after opsD V (main_v13 : DevRef τ sig) = refD (V (main_arg0 : DevRef τ sig)) := by
  after_results_simp
  rfl

theorem opsD_arg0 (V : Valuation τ sig (Elt F)) : after opsD V (main_arg0 : DevRef τ sig) = V (main_arg0 : DevRef τ sig) := by
  simp only [after_cons, after_nil]
  rfl

theorem opsD_arg1 (V : Valuation τ sig (Elt F)) : after opsD V (main_arg1 : DevRef τ sig) = V (main_arg1 : DevRef τ sig) := by
  simp only [after_cons, after_nil]
  rfl

theorem opsD_arg2 (V : Valuation τ sig (Elt F)) : after opsD V (main_arg2 : DevRef τ sig) = V (main_arg2 : DevRef τ sig) := by
  simp only [after_cons, after_nil]
  rfl

theorem opsM_pos (V : Valuation τ sig (Elt F)) :
    after opsM V (main_v31 : DevRef τ sig) = refPos (V (main_arg1 : DevRef τ sig)) (V (main_arg2 : DevRef τ sig)) := by
  after_results_simp
  rfl

theorem opsM_neg (V : Valuation τ sig (Elt F)) :
    after opsM V (main_v33 : DevRef τ sig) = refNeg (V (main_arg1 : DevRef τ sig)) (V (main_arg2 : DevRef τ sig)) := by
  after_results_simp
  rfl

theorem opsM_valid (V : Valuation τ sig (Elt F)) :
    after opsM V (main_v36 : DevRef τ sig) = refValid (V (main_arg1 : DevRef τ sig)) (V (main_arg2 : DevRef τ sig)) := by
  after_results_simp
  rfl

theorem opsM_arg0 (V : Valuation τ sig (Elt F)) : after opsM V (main_arg0 : DevRef τ sig) = V (main_arg0 : DevRef τ sig) := by
  simp only [after_cons, after_nil]
  rfl

theorem opsM_arg1 (V : Valuation τ sig (Elt F)) : after opsM V (main_arg1 : DevRef τ sig) = V (main_arg1 : DevRef τ sig) := by
  simp only [after_cons, after_nil]
  rfl

theorem opsM_arg2 (V : Valuation τ sig (Elt F)) : after opsM V (main_arg2 : DevRef τ sig) = V (main_arg2 : DevRef τ sig) := by
  simp only [after_cons, after_nil]
  rfl

theorem opsM_v13 (V : Valuation τ sig (Elt F)) : after opsM V (main_v13 : DevRef τ sig) = V (main_v13 : DevRef τ sig) := by
  simp only [after_cons, after_nil]
  rfl

theorem opsI_argmax (V : Valuation τ sig (Elt F)) :
    after opsI V (main_v38 : DevRef τ sig) = refArgmax (V (main_v31 : DevRef τ sig)) (V (main_v13 : DevRef τ sig)) := by
  after_results_simp
  rfl

theorem opsI_argmin (V : Valuation τ sig (Elt F)) :
    after opsI V (main_v40 : DevRef τ sig) = refArgmin (V (main_v33 : DevRef τ sig)) (V (main_v13 : DevRef τ sig)) := by
  after_results_simp
  rfl

theorem opsI_arg0 (V : Valuation τ sig (Elt F)) : after opsI V (main_arg0 : DevRef τ sig) = V (main_arg0 : DevRef τ sig) := by
  simp only [after_cons, after_nil]
  rfl

theorem opsI_arg1 (V : Valuation τ sig (Elt F)) : after opsI V (main_arg1 : DevRef τ sig) = V (main_arg1 : DevRef τ sig) := by
  simp only [after_cons, after_nil]
  rfl

theorem opsI_arg2 (V : Valuation τ sig (Elt F)) : after opsI V (main_arg2 : DevRef τ sig) = V (main_arg2 : DevRef τ sig) := by
  simp only [after_cons, after_nil]
  rfl

theorem opsI_v36 (V : Valuation τ sig (Elt F)) : after opsI V (main_v36 : DevRef τ sig) = V (main_v36 : DevRef τ sig) := by
  simp only [after_cons, after_nil]
  rfl

theorem opsT_takeP (V : Valuation τ sig (Elt F)) :
    after opsT V (main_v41 : DevRef τ sig) = refTake (V (main_arg0 : DevRef τ sig)) (V (main_v38 : DevRef τ sig)) := by
  after_results_simp
  rfl

theorem opsT_takeN (V : Valuation τ sig (Elt F)) :
    after opsT V (main_v42 : DevRef τ sig) = refTake (V (main_arg0 : DevRef τ sig)) (V (main_v40 : DevRef τ sig)) := by
  after_results_simp
  rfl

theorem opsT_arg0 (V : Valuation τ sig (Elt F)) : after opsT V (main_arg0 : DevRef τ sig) = V (main_arg0 : DevRef τ sig) := by
  simp only [after_cons, after_nil]
  rfl

theorem opsT_arg1 (V : Valuation τ sig (Elt F)) : after opsT V (main_arg1 : DevRef τ sig) = V (main_arg1 : DevRef τ sig) := by
  simp only [after_cons, after_nil]
  rfl

theorem opsT_arg2 (V : Valuation τ sig (Elt F)) : after opsT V (main_arg2 : DevRef τ sig) = V (main_arg2 : DevRef τ sig) := by
  simp only [after_cons, after_nil]
  rfl

theorem opsT_v36 (V : Valuation τ sig (Elt F)) : after opsT V (main_v36 : DevRef τ sig) = V (main_v36 : DevRef τ sig) := by
  simp only [after_cons, after_nil]
  rfl

theorem opsN_normP (V : Valuation τ sig (Elt F)) :
    after opsN V (main_v44 : DevRef τ sig) = refNorm (V (main_arg0 : DevRef τ sig)) (V (main_v41 : DevRef τ sig)) := by
  after_results_simp
  rfl

theorem opsN_normN (V : Valuation τ sig (Elt F)) :
    after opsN V (main_v46 : DevRef τ sig) = refNorm (V (main_arg0 : DevRef τ sig)) (V (main_v42 : DevRef τ sig)) := by
  after_results_simp
  rfl

theorem opsN_arg0 (V : Valuation τ sig (Elt F)) : after opsN V (main_arg0 : DevRef τ sig) = V (main_arg0 : DevRef τ sig) := by
  simp only [after_cons, after_nil]
  rfl

theorem opsN_arg1 (V : Valuation τ sig (Elt F)) : after opsN V (main_arg1 : DevRef τ sig) = V (main_arg1 : DevRef τ sig) := by
  simp only [after_cons, after_nil]
  rfl

theorem opsN_arg2 (V : Valuation τ sig (Elt F)) : after opsN V (main_arg2 : DevRef τ sig) = V (main_arg2 : DevRef τ sig) := by
  simp only [after_cons, after_nil]
  rfl

theorem opsN_v36 (V : Valuation τ sig (Elt F)) : after opsN V (main_v36 : DevRef τ sig) = V (main_v36 : DevRef τ sig) := by
  simp only [after_cons, after_nil]
  rfl

theorem opsZ_loss (V : Valuation τ sig (Elt F)) :
    after opsZ V (main_v57 : DevRef τ sig) = refLoss (V (main_v36 : DevRef τ sig)) (V (main_v44 : DevRef τ sig)) (V (main_v46 : DevRef τ sig)) := by
  after_results_simp
  rfl

theorem opsZ_arg0 (V : Valuation τ sig (Elt F)) : after opsZ V (main_arg0 : DevRef τ sig) = V (main_arg0 : DevRef τ sig) := by
  simp only [after_cons, after_nil]
  rfl

theorem opsZ_arg1 (V : Valuation τ sig (Elt F)) : after opsZ V (main_arg1 : DevRef τ sig) = V (main_arg1 : DevRef τ sig) := by
  simp only [after_cons, after_nil]
  rfl

theorem opsZ_arg2 (V : Valuation τ sig (Elt F)) : after opsZ V (main_arg2 : DevRef τ sig) = V (main_arg2 : DevRef τ sig) := by
  simp only [after_cons, after_nil]
  rfl

/-! ## The run -/

/-- All operations, in order. -/
abbrev ops : List (HloOp τ sig (Elt F)) := opsD ++ (opsM ++ (opsI ++ (opsT ++ (opsN ++ opsZ))))

/-- The program is that straight line. -/
theorem main_eq (c : Dev nD) : main (F := F) c = seq ops := by
  simp only [main, main_part0, main_part1, fn_clip.body, fn_where.body, fn_where_0.body, fn_where_1.body, fn_argmax.body, fn_argmin.body,
    fn_take.body, fn_norm.body, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨opsD_sub, opsM_sub, opsI_sub, opsT_sub, opsN_sub, opsZ_sub⟩

theorem after_append (l₁ l₂ : List (HloOp τ sig (Elt F))) (V : Valuation τ sig (Elt F)) :
    after (l₁ ++ l₂) V = after l₂ (after l₁ V) := by
  induction l₁ generalizing V with
  | nil => rfl
  | cons a l ih => simp only [List.cons_append, after_cons, ih]

/-- The result buffer after all operations. -/
theorem out_eq (V : Valuation τ sig (Elt F)) :
    after ops V (main_v57 : DevRef τ sig)
      = refOut (V (main_arg0 : DevRef τ sig)) (V (main_arg1 : DevRef τ sig)) (V (main_arg2 : DevRef τ sig)) := by
  rw [after_append, after_append, after_append, after_append, after_append, opsZ_loss, opsN_normP, opsN_normN, opsN_v36, opsT_v36, opsI_v36,
    opsM_valid, opsT_takeP, opsT_takeN, opsT_arg0, opsI_argmax, opsI_argmin, opsI_arg0, opsM_pos, opsM_neg, opsM_v13, opsM_arg0, opsD_dist,
    opsD_arg0, opsD_arg1, opsD_arg2]
  rfl

/-- The argument buffers keep their contents. -/
theorem arg0_eq (V : Valuation τ sig (Elt F)) : after ops V (main_arg0 : DevRef τ sig) = V (main_arg0 : DevRef τ sig) := by
  rw [after_append, after_append, after_append, after_append, after_append, opsZ_arg0, opsN_arg0, opsT_arg0, opsI_arg0, opsM_arg0, opsD_arg0]
theorem arg1_eq (V : Valuation τ sig (Elt F)) : after ops V (main_arg1 : DevRef τ sig) = V (main_arg1 : DevRef τ sig) := by
  rw [after_append, after_append, after_append, after_append, after_append, opsZ_arg1, opsN_arg1, opsT_arg1, opsI_arg1, opsM_arg1, opsD_arg1]
theorem arg2_eq (V : Valuation τ sig (Elt F)) : after ops V (main_arg2 : DevRef τ sig) = V (main_arg2 : DevRef τ sig) := by
  rw [after_append, after_append, after_append, after_append, after_append, opsZ_arg2, opsN_arg2, opsT_arg2, opsI_arg2, opsM_arg2, opsD_arg2]

/-- THE RUN: from any memory with zero counters the reference ends with its result buffer at `refOut` of the launch
    contents of its arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v57).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Hand

end
-- ==== Proof.KMask.lean ====
/-
  The kernel's masks, from combined keys, are the reference's, from subjects and labels, when every label lies in [0, 8)
  and every subject in [0, 32).
-/
module

public import proofs.«01_k».proof.Proof.KBlock
public import proofs.«01_k».proof.Proof.KEntry
public import proofs.«01_k».proof.Proof.RefRun

@[expose] public section

set_option maxRecDepth 16384

noncomputable section

namespace Cert.KernelIdeal.Hand

open Cert.KernelIdeal Cert.Triplet
open Idealize.ShloMosaic Idealize.ShloMosaic.TcCoe Idealize.ShloMosaic.Tactic
open Cert.ReferenceIdeal.Hand (refPos refNeg refSame)

theorem andi_iff : ∀ a b : BitVec 1, IntOp.andi a b = 1#1 ↔ a = 1#1 ∧ b = 1#1 := by decide
theorem flip_iff : ∀ a : BitVec 1, IntOp.xori a 1#1 = 1#1 ↔ ¬ a = 1#1 := by decide
theorem not_iff_bit : ∀ a : BitVec 1, ~~~a = 1#1 ↔ ¬ a = 1#1 := by decide

theorem eq_iff (a b : BitVec 32) : IntOp.cmpi .eq a b = 1#1 ↔ a = b := by
  by_cases h : a = b
  · simp [IntOp.cmpi, h]
  · have e : (a == b) = false := by simpa using h
    simp [IntOp.cmpi, h, e]

theorem ne_iff_bit (a b : BitVec 32) : IntOp.cmpi .ne a b = 1#1 ↔ ¬ a = b := by
  by_cases h : a = b
  · simp [IntOp.cmpi, h]
  · have e : (a != b) = true := by simpa using h
    simp [IntOp.cmpi, h, e]

/-- Combined keys agree exactly where the subjects and the labels do. -/
theorem key_eq_iff {l s : Vec Ideal S4096 .i32} (hl : ∀ i, (l (ix1 i)).toNat < 8) (hs : ∀ i, (s (ix1 i)).toNat < 32) (i j : Fin 4096) :
    key l s i = key l s j ↔ s (ix1 i) = s (ix1 j) ∧ l (ix1 i) = l (ix1 j) := by
  have hk : ∀ i, (key l s i).toNat = (s (ix1 i)).toNat * 8 + (l (ix1 i)).toNat := fun i => by
    have h1 := hl i
    have h2 := hs i
    simp [key, IntOp.addi, IntOp.muli]
    omega
  have h1 := hl i
  have h2 := hl j
  constructor
  · intro h
    have e : (key l s i).toNat = (key l s j).toNat := by rw [h]
    rw [hk, hk] at e
    exact ⟨BitVec.eq_of_toNat_eq (by omega), BitVec.eq_of_toNat_eq (by omega)⟩
  · rintro ⟨e1, e2⟩
    apply BitVec.eq_of_toNat_eq
    rw [hk, hk, e1, e2]

/-- Row and column words agree exactly where row and column do. -/
theorem word_eq_iff {a b : Nat} (ha : a < 4096) (hb : b < 4096) : BitVec.ofNat 32 a = BitVec.ofNat 32 b ↔ a = b := by
  constructor
  · intro h
    have e := congrArg BitVec.toNat h
    rw [BitVec.toNat_ofNat, BitVec.toNat_ofNat] at e
    omega
  · rintro rfl; rfl

theorem row_word {t : Nat} (ht : t < 16) (r : Fin 256) :
    IntOp.addi (Scalar.muli (BitVec.ofNat 32 t) 256#32) (BitVec.ofNat 32 r.val) = BitVec.ofNat 32 (256 * t + r.val) := by
  have hr := r.isLt
  apply BitVec.eq_of_toNat_eq
  simp [IntOp.addi, Scalar.muli, IntOp.muli]
  omega

theorem refPos_iff (l s : IVec S4096 32) (i j : Fin 4096) :
    refPos l s (ix2 i j) = 1#1 ↔ (s (ix1 i) = s (ix1 j) ∧ l (ix1 i) = l (ix1 j)) ∧ ¬ i.val = j.val := by
  pointwise [refPos, refSame]
  have h0 : IntOp.addi (BitVec.ofNat 32 i.val) 0#32 = BitVec.ofNat 32 i.val := by simp [IntOp.addi]
  rw [h0, andi_iff, andi_iff, not_iff_bit, eq_iff, eq_iff, eq_iff, word_eq_iff i.isLt j.isLt]

theorem refNeg_iff (l s : IVec S4096 32) (i j : Fin 4096) :
    refNeg l s (ix2 i j) = 1#1 ↔ s (ix1 i) = s (ix1 j) ∧ ¬ l (ix1 i) = l (ix1 j) := by
  pointwise [refNeg, refSame]
  rw [andi_iff, not_iff_bit, eq_iff, eq_iff]

/-- The kernel's positives at a block of rows are the reference's. -/
theorem kp_eq {l s : Vec Ideal S4096 .i32} (hl : ∀ i, (l (ix1 i)).toNat < 8) (hs : ∀ i, (s (ix1 i)).toNat < 32) {t : Nat} (ht : t < 16)
    (x2 : Vec Ideal S256x1 .i32) (x4 : Vec Ideal S1x4096 .i32) (r : Fin 256) (j i : Fin 4096) (hi : i.val = 256 * t + r.val)
    (h2 : x2 (ix2 r 0) = key l s i) (h4 : x4 (ix2 0 j) = key l s j) :
    kp (BitVec.ofNat 32 t) x2 x4 r j = refPos l s (ix2 i j) := by
  apply bit_ext
  unfold kp
  rw [refPos_iff, andi_iff, eq_iff, ne_iff_bit, h2, h4, key_eq_iff hl hs, row_word ht, ← hi, word_eq_iff i.isLt j.isLt]

/-- The kernel's negatives at a block of rows are the reference's. -/
theorem kn_eq {l s : Vec Ideal S4096 .i32} (hl : ∀ i, (l (ix1 i)).toNat < 8) (hs : ∀ i, (s (ix1 i)).toNat < 32)
    (x2 x3 : Vec Ideal S256x1 .i32) (x4 x5 : Vec Ideal S1x4096 .i32) (r : Fin 256) (j i : Fin 4096)
    (h2 : x2 (ix2 r 0) = key l s i) (h4 : x4 (ix2 0 j) = key l s j) (h3 : x3 (ix2 r 0) = s (ix1 i)) (h5 : x5 (ix2 0 j) = s (ix1 j)) :
    kn x2 x3 x4 x5 r j = refNeg l s (ix2 i j) := by
  apply bit_ext
  unfold kn
  rw [refNeg_iff, andi_iff, flip_iff, eq_iff, eq_iff, h2, h3, h4, h5, key_eq_iff hl hs]
  tauto

end Cert.KernelIdeal.Hand

end
-- ==== Proof.KRun.lean ====
/-
  The kernel's run over the reals: at finite embeddings and keys in range its result is the loss of Math.lean.
-/
module

public import proofs.«01_k».proof.Proof.KMask

@[expose] public section

set_option maxRecDepth 16384

noncomputable section

namespace Cert.KernelIdeal.Hand

open Cert.KernelIdeal Cert.KernelIdeal.Gen Cert.Triplet
open Idealize.ShloMosaic Idealize.ShloMosaic.TcCoe Idealize.ShloMosaic.Tactic Idealize.ShloMosaic.Pipeline
open Idealize.SL.Sem
open Cert.ReferenceIdeal.Hand (refPos refNeg)

variable (m : (ℓ : Loc nD τ sig) → Buf (Elt Ideal) ℓ) (c : Dev nD)

/-- The array of the blocks' results: entry `(b, 0, j)` is lane `j` of block `b`. -/
def blocks : Vec Ideal S16x1x128 .f32 := fun y => outsAt0 m c ⟨(y 0).val, (y 0).isLt⟩ (ix3 0 0 (y 2))

theorem blocks_lane (b : Fin 16) (j : Fin 128) : blocks m c (ix3 b 0 j) = outsAt0 m c ⟨b.val, b.isLt⟩ (ix3 0 0 j) := rfl

theorem arr_eq : (dats m 0 c).arrAt 6 (cfgs 0).N = blocks m c := by
  refine (dats m 0 c).arrAt_eq_of_covers 6 _ (by decide +kernel) fun t hf y => ?_
  blk_simp
  rw [after0_6]
  blk_ext [blocks, idx t]

/-- The array of the blocks' results as the host's tail reads it. -/
theorem arr_read : withArrays (cfgs 0).spec c (V0 m c) (fun w => (dats m 0 c).arrAt w (cfgs 0).N) (Proc.tc.devRef main_v7) = blocks m c :=
  ((dats m 0 c).withArrays_arrAt launch₀0.sharedIn (V0 m c) (fun w => A_eq m c w) 6).trans (arr_eq m c)

/-- The host's tail over any array of blocks' results. -/
def tail (A : Vec Ideal S16x1x128 .f32) : FVec Ideal S_ .f32 :=
  Host.divf
    (Host.reduceAdd (shapeCast S16 (extractStridedSlice S16x1x1 ![0, 0, 0] A slices_S16x1x128_S16x1x1_0_0_0) shapeCasts_S16x1x1_S16)
      (constant S_ .f32 0#32) reducesTo_S16_S_d0 h_S_)
    (maximumf
      (Host.reduceAdd (shapeCast S16 (extractStridedSlice S16x1x1 ![0, 0, 1] A slices_S16x1x128_S16x1x1_0_0_1) shapeCasts_S16x1x1_S16)
        (constant S_ .f32 0#32) reducesTo_S16_S_d0 h_S_)
      (constant S_ .f32 1065353216#32))

/-- The tail is the quotient of the sum of lanes 0 and the larger of the sum of lanes 1 and one. -/
theorem tail_at (A : Vec Ideal S16x1x128 .f32) :
    tail A ix0 = Ideal.div (∑ b : Fin 16, A (ix3 b 0 0)) (max (∑ b : Fin 16, A (ix3 b 0 1)) 1) := by
  pointwise [tail]

/-- The host's tail reads the array of the blocks' results. -/
theorem tail_read : Pipeline.afterTail₀ cfgs (dats m) 0 (V0 m) [hostOps1] c main_v15
    = tail (withArrays (cfgs 0).spec c (V0 m c) (fun w => (dats m 0 c).arrAt w (cfgs 0).N) (Proc.tc.devRef main_v7)) := by
  unfold Pipeline.afterTail₀
  simp only [List.flatten_cons, List.flatten_nil, List.append_nil]
  after_results_simp
  rfl

theorem tail_eq : Pipeline.afterTail₀ cfgs (dats m) 0 (V0 m) [hostOps1] c main_v15 ix0
    = Ideal.div (∑ b : Fin 16, blocks m c (ix3 b 0 0)) (max (∑ b : Fin 16, blocks m c (ix3 b 0 1)) 1) := by
  rw [tail_read, arr_read]
  exact tail_at _

/-- The sums of a block of rows, as lanes of the array of the blocks' results. -/
theorem blocks_at {r : Fin 4096 → Fin 128 → ℝ} (hx : ∀ i k, m ((c : Thread nD τ).loc main_arg0) (ix2 i k) = (r i k : EReal))
    (hl : ∀ i, (m ((c : Thread nD τ).loc main_arg1) (ix1 i) : BitVec 32).toNat < 8)
    (hs : ∀ i, (m ((c : Thread nD τ).loc main_arg2) (ix1 i) : BitVec 32).toNat < 32) (b : Fin 16) :
    let l : Vec Ideal S4096 .i32 := m ((c : Thread nD τ).loc main_arg1)
    let s : Vec Ideal S4096 .i32 := m ((c : Thread nD τ).loc main_arg2)
    let row : Fin 256 → Fin 4096 := fun q => ⟨256 * b.val + q.val, by omega⟩
    blocks m c (ix3 b 0 0) = ∑ q, hinge (fun j => refPos l s (ix2 (row q) j)) (fun j => refNeg l s (ix2 (row q) j)) (dist2 r (row q)) (Ideal.ofBits .f32 1061997773#32)
      ∧ blocks m c (ix3 b 0 1) = ∑ q, tally (fun j => refPos l s (ix2 (row q) j)) (fun j => refNeg l s (ix2 (row q) j)) := by
  intro l s row
  have ht : (grid0.coords (⟨b.val, b.isLt⟩ : Fin cfg0.N) 0).val = b.val := coords_val _
  rw [blocks_lane m c b 0, blocks_lane m c b 1]
  unfold outsAt0
  refine block_value c _ _ _ _ _ _ _ _ _ _ _ _ _ _ _ _ _ _ _ _ _ r (fun i k => ?_) row (fun q k => ?_) (fun q j => refPos l s (ix2 (row q) j))
    (fun q j => refNeg l s (ix2 (row q) j)) (fun q j => ?_) (fun q j => ?_)
  · exact (iblk1_at m c _ i k).trans (hx i k)
  · exact (iblk0_at m c _ q k).trans (hx _ k)
  · rw [ht]
    exact kp_eq hl hs b.isLt _ _ q j (row q) rfl (iblk2_at m c _ q) (iblk4_at m c _ j)
  · exact kn_eq hl hs _ _ _ _ q j (row q) (iblk2_at m c _ q) (iblk4_at m c _ j) (iblk3_at m c _ q) (iblk5_at m c _ j)

/-- The kernel's result is the loss. -/
theorem result_at {r : Fin 4096 → Fin 128 → ℝ} (hx : ∀ i k, m ((c : Thread nD τ).loc main_arg0) (ix2 i k) = (r i k : EReal))
    (hl : ∀ i, (m ((c : Thread nD τ).loc main_arg1) (ix1 i) : BitVec 32).toNat < 8)
    (hs : ∀ i, (m ((c : Thread nD τ).loc main_arg2) (ix1 i) : BitVec 32).toNat < 32) :
    Pipeline.afterTail₀ cfgs (dats m) 0 (V0 m) [hostOps1] c main_v15 ix0
      = loss (fun i j => refPos (m ((c : Thread nD τ).loc main_arg1)) (m ((c : Thread nD τ).loc main_arg2)) (ix2 i j))
          (fun i j => refNeg (m ((c : Thread nD τ).loc main_arg1)) (m ((c : Thread nD τ).loc main_arg2)) (ix2 i j)) (dist2 r)
          (Ideal.ofBits .f32 1061997773#32) := by
  rw [tail_eq]
  unfold loss
  refine congrArg₂ Ideal.div ?_ (congrArg (fun a : EReal => max a 1) ?_)
  · rw [Finset.sum_congr rfl fun b _ => (blocks_at m c hx hl hs b).1]
    exact sum_blocks 16 256 4096 rfl _ _ fun _ _ _ => rfl
  · rw [Finset.sum_congr rfl fun b _ => (blocks_at m c hx hl hs b).2]
    exact sum_blocks 16 256 4096 rfl _ _ fun _ _ _ => rfl

/-- The kernel's run: its result is what the host's tail leaves, and its arguments are unchanged. -/
theorem run (ρ) : θ_run defs (onTc (τ := τ) (main (F := Ideal))) ⟨m, fun _ => 0, ρ⟩ (fun σ => ∀ c : Dev nD,
    σ.2.mem ((c.tc : Thread nD τ).loc main_v15) = Pipeline.afterTail₀ cfgs (dats m) 0 (V0 m) [hostOps1] c main_v15
      ∧ σ.2.mem ((c.tc : Thread nD τ).loc main_arg0) = m ((c.tc : Thread nD τ).loc main_arg0)
      ∧ σ.2.mem ((c.tc : Thread nD τ).loc main_arg1) = m ((c.tc : Thread nD τ).loc main_arg1)
      ∧ σ.2.mem ((c.tc : Thread nD τ).loc main_arg2) = m ((c.tc : Thread nD τ).loc main_arg2)) :=
  (θ_run defs _ _).mono (fun _ h c => ⟨h.1.rest_eq c main_v15 (by decide), h.2 c⟩) (θ_run_and (run_main m ρ) (unchanged m ρ))

end Cert.KernelIdeal.Hand

end
-- ==== Proof.RefArg.lean ====
/-
  The positions of the largest and of the smallest entry of a row, as the reference's two reductions find them.
-/
module

public import proofs.«01_k».proof.Proof.RefRun
public import proofs.«01_k».proof.Proof.Math
public import Idealize.ShloMosaic.Lib.Pointwise
public import Idealize.ShloMosaic.Lib.Routing.Ops
public import Idealize.ShloMosaic.Lib.Routing.OpsOrder

@[expose] public section

set_option maxRecDepth 16384

noncomputable section

namespace Cert.ReferenceIdeal.Hand

open Cert.ReferenceIdeal Cert.ReferenceIdeal.Gen Cert.Triplet
open Idealize.ShloMosaic Idealize.ShloMosaic.TcCoe Idealize.ShloMosaic.Tactic Idealize.ShloMosaic.Routing

/-! ## The positions -/

/-- The second entry of a pair of the array. -/
theorem seconds_apply {s : Shape} {α β : Type} (f : s.Idx → α × β) (j : s.Idx) : seconds f j = (f j).2 := rfl

theorem bit_or_one : (1#1 ||| 0#1 : BitVec 1) = 1#1 := by decide

/-- The reducer of the largest position keeps one of its arguments, of a value that neither exceeds. -/
theorem argmax_step (a b : Ideal .f32 × BitVec 32) :
    (reducer_argmax_f32_i32 a b = a ∨ reducer_argmax_f32_i32 a b = b)
      ∧ (a.1 : EReal) ≤ (reducer_argmax_f32_i32 a b).1 ∧ (b.1 : EReal) ≤ (reducer_argmax_f32_i32 a b).1 := by
  obtain ⟨a1, a2⟩ := a
  obtain ⟨b1, b2⟩ := b
  change EReal at a1 b1
  unfold reducer_argmax_f32_i32
  rcases lt_trichotomy a1 b1 with h | h | h
  · have : ¬ b1 < a1 := not_lt.2 h.le
    simp [Ideal.cmpf_def, Ideal.cmp, Scalar.select, IntOp.ori, IntOp.andi, this, h.ne, h.le]
  · subst h
    rcases BitVec.eq_zero_or_eq_one (IntOp.cmpi .slt a2 b2) with e | e <;>
      simp [Ideal.cmpf_def, Ideal.cmp, Scalar.select, IntOp.ori, IntOp.andi, e]
  · simp [Ideal.cmpf_def, Ideal.cmp, Scalar.select, IntOp.ori, IntOp.andi, h, h.le, h.ne', bit_or_one]

/-- The reducer of the smallest position keeps one of its arguments, of a value that neither is below. -/
theorem argmin_step (a b : Ideal .f32 × BitVec 32) :
    (reducer_argmin_f32_i32 a b = a ∨ reducer_argmin_f32_i32 a b = b)
      ∧ (reducer_argmin_f32_i32 a b).1 ≤ (a.1 : EReal) ∧ (reducer_argmin_f32_i32 a b).1 ≤ (b.1 : EReal) := by
  obtain ⟨a1, a2⟩ := a
  obtain ⟨b1, b2⟩ := b
  change EReal at a1 b1
  unfold reducer_argmin_f32_i32
  rcases lt_trichotomy b1 a1 with h | h | h
  · have : ¬ a1 < b1 := not_lt.2 h.le
    simp [Ideal.cmpf_def, Ideal.cmp, Scalar.select, IntOp.ori, IntOp.andi, this, h.ne', h.le]
  · subst h
    rcases BitVec.eq_zero_or_eq_one (IntOp.cmpi .slt a2 b2) with e | e <;>
      simp [Ideal.cmpf_def, Ideal.cmp, Scalar.select, IntOp.ori, IntOp.andi, e]
  · simp [Ideal.cmpf_def, Ideal.cmp, Scalar.select, IntOp.ori, IntOp.andi, h, h.le, h.ne, bit_or_one]

/-- The pairs that a reduction of a square array along its rows meets: the entry of the row and the paired entry, column by column. -/
theorem mem_fiber {α β : Type} {n w : Nat} {t : Shape} (x : (⟨2, ![n, w]⟩ : Shape).Idx → α) (y : (⟨2, ![n, w]⟩ : Shape).Idx → β)
    (h : (⟨2, ![n, w]⟩ : Shape).ReducesTo [1] t) (j : t.Idx) (i : Fin n) (hi : (j ⟨0, h.lt_r2_a1_0⟩).val = i.val) (z : α × β) :
    z ∈ Host.argReduceFiber x y h j ↔ ∃ k : Fin w, z = (x (ix2 i k), y (ix2 i k)) := by
  have hix : ∀ k : Fin w, (ix2 ⟨(j ⟨0, h.lt_r2_a1_0⟩).val, Shape.coordLt (j ⟨0, h.lt_r2_a1_0⟩) h.size_r2_a1_0⟩ k : (⟨2, ![n, w]⟩ : Shape).Idx) = ix2 i k := fun k =>
    congrArg (fun a => ix2 a k) (Fin.ext hi)
  unfold Host.argReduceFiber
  simp only [List.mem_map, List.mem_filter, decide_eq_true_eq, h.fiber_r2_a1]
  constructor
  · rintro ⟨a, ⟨-, k, hk⟩, rfl⟩
    exact ⟨k, by rw [← hk, hix]⟩
  · rintro ⟨k, rfl⟩
    exact ⟨(⟨2, ![n, w]⟩ : Shape).rowMajor (ix2 i k), ⟨List.mem_finRange _, k, by rw [hix, Equiv.symm_apply_apply]⟩,
      by rw [Equiv.symm_apply_apply]⟩

/-- The position of the largest entry of a row, one entry being above the least element: a column that no other exceeds. -/
theorem argmax_at (x : FVec Ideal S4096x4096 .f32) (y : IVec S4096x4096 32) (u : FVec Ideal S_ .f32) (v : IVec S_ 32)
    (i : Fin 4096) (hu : ∀ a, (u a : EReal) = ⊥) (hx : ∃ k, (⊥ : EReal) < x (ix2 i k)) :
    ∃ j : Fin 4096, seconds (Host.argReduce reducer_argmax_f32_i32 x y u v reducesTo_S4096x4096_S4096_d1 h_S_) (ix1 i) = y (ix2 i j)
      ∧ ∀ k, (x (ix2 i k) : EReal) ≤ x (ix2 i j) := by
  rw [seconds_apply, Ideal.argReduce_eq_reduce2, Host.reduce2_eq_foldl_fiber]
  obtain ⟨h1, -, h3⟩ := foldl_pick (fun a b : Ideal .f32 × BitVec 32 => (a.1 : EReal) ≤ b.1) (fun a => le_refl _)
    (fun a b c => le_trans) reducer_argmax_f32_i32 (fun a b => (argmax_step a b).1) (fun a b => (argmax_step a b).2.1)
    (fun a b => (argmax_step a b).2.2) (Host.argReduceFiber x y reducesTo_S4096x4096_S4096_d1 (ix1 i))
    (u (Shape.Idx.first h_S_), v (Shape.Idx.first h_S_))
  have hle : ∀ k, (x (ix2 i k) : EReal) ≤ _ := fun k => h3 (x (ix2 i k), y (ix2 i k)) ((mem_fiber x y _ _ i rfl _).2 ⟨k, rfl⟩)
  rcases h1 with h | h
  · obtain ⟨k, hk⟩ := hx
    have := lt_of_lt_of_le hk (hle k)
    rw [h, hu] at this
    exact absurd this (lt_irrefl _)
  · obtain ⟨j, hj⟩ := (mem_fiber x y _ _ i rfl _).1 h
    exact ⟨j, by rw [hj], fun k => by have := hle k; rwa [hj] at this⟩

/-- The position of the smallest entry of a row, one entry being below the greatest element: a column that no other is below. -/
theorem argmin_at (x : FVec Ideal S4096x4096 .f32) (y : IVec S4096x4096 32) (u : FVec Ideal S_ .f32) (v : IVec S_ 32)
    (i : Fin 4096) (hu : ∀ a, (u a : EReal) = ⊤) (hx : ∃ k, (x (ix2 i k) : EReal) < ⊤) :
    ∃ j : Fin 4096, seconds (Host.argReduce reducer_argmin_f32_i32 x y u v reducesTo_S4096x4096_S4096_d1 h_S_) (ix1 i) = y (ix2 i j)
      ∧ ∀ k, (x (ix2 i j) : EReal) ≤ x (ix2 i k) := by
  rw [seconds_apply, Ideal.argReduce_eq_reduce2, Host.reduce2_eq_foldl_fiber]
  obtain ⟨h1, -, h3⟩ := foldl_pick (fun a b : Ideal .f32 × BitVec 32 => (b.1 : EReal) ≤ a.1) (fun a => le_refl _)
    (fun a b c h h' => le_trans h' h) reducer_argmin_f32_i32 (fun a b => (argmin_step a b).1) (fun a b => (argmin_step a b).2.1)
    (fun a b => (argmin_step a b).2.2) (Host.argReduceFiber x y reducesTo_S4096x4096_S4096_d1 (ix1 i))
    (u (Shape.Idx.first h_S_), v (Shape.Idx.first h_S_))
  have hle : ∀ k, _ ≤ (x (ix2 i k) : EReal) := fun k => h3 (x (ix2 i k), y (ix2 i k)) ((mem_fiber x y _ _ i rfl _).2 ⟨k, rfl⟩)
  rcases h1 with h | h
  · obtain ⟨k, hk⟩ := hx
    have := lt_of_le_of_lt (hle k) hk
    rw [h, hu] at this
    exact absurd this (lt_irrefl _)
  · obtain ⟨j, hj⟩ := (mem_fiber x y _ _ i rfl _).1 h
    exact ⟨j, by rw [hj], fun k => by have := hle k; rwa [hj] at this⟩

/-- The columns' numbers. -/
theorem iota_at (i j : Fin 4096) : iotaInDim S4096x4096 32 1 (ix2 i j) = BitVec.ofNat 32 j.val := by pointwise

/-- The square array of one float at an entry. -/
theorem fill_at (b : BitVec 32) (i j : Fin 4096) {e : EReal} (he : Ideal.ofBits .f32 b = e) :
    (broadcastInDim S4096x4096 ![] bcast_S_S4096x4096 (constant S_ .f32 b) : FVec Ideal S4096x4096 .f32) (ix2 i j) = e := by
  pointwise; exact he

/-- The position of the largest of the masked roots of a row, where the mask holds somewhere: a position of the mask. -/
theorem argmax_mask (p : IVec S4096x4096 1) (D z : FVec Ideal S4096x4096 .f32) (y : IVec S4096x4096 32) (u : FVec Ideal S_ .f32)
    (v : IVec S_ 32) {d : Fin 4096 → ℝ} (i : Fin 4096) (hu : ∀ a, (u a : EReal) = ⊥) (hz : ∀ k, (z (ix2 i k) : EReal) = ⊥)
    (hy : ∀ k, y (ix2 i k) = BitVec.ofNat 32 k.val)
    (hD : ∀ j, D (ix2 i j) = (Real.sqrt (d j) : EReal)) (hd : ∀ j, 0 ≤ d j) (h : ∃ j, p (ix2 i j) = 1#1) :
    ∃ j : Fin 4096, seconds (Host.argReduce reducer_argmax_f32_i32 (select p D z) y u v reducesTo_S4096x4096_S4096_d1 h_S_) (ix1 i)
        = BitVec.ofNat 32 j.val ∧ (d j : EReal) = far (fun j => p (ix2 i j)) d := by
  have hx : ∀ k, (select p D z (ix2 i k) : EReal) = Scalar.select (p (ix2 i k)) (Real.sqrt (d k) : EReal) ⊥ := fun k => by
    show Scalar.select (p (ix2 i k)) (D (ix2 i k)) (z (ix2 i k)) = _
    rw [hD, hz]
  obtain ⟨j, hj, hle⟩ := argmax_at (select p D z) y u v i hu (h.imp fun k hk => by rw [hx, select_one hk]; exact EReal.bot_lt_coe _)
  simp only [hx] at hle
  have hpj : p (ix2 i j) = 1#1 := by
    by_contra hn
    obtain ⟨k, hk⟩ := h
    have := hle k
    rw [select_one hk, select_ne hn] at this
    exact absurd this (not_le.2 (EReal.bot_lt_coe _))
  rw [hy] at hj
  refine ⟨j, hj, (far_eq j hpj fun k hk => ?_).symm⟩
  have := hle k
  rw [select_one hk, select_one hpj, EReal.coe_le_coe_iff] at this
  exact (Real.sqrt_le_sqrt_iff (hd j)).1 this

/-- The position of the smallest of the masked roots of a row, where the mask holds somewhere: a position of the mask. -/
theorem argmin_mask (q : IVec S4096x4096 1) (D z : FVec Ideal S4096x4096 .f32) (y : IVec S4096x4096 32) (u : FVec Ideal S_ .f32)
    (v : IVec S_ 32) {d : Fin 4096 → ℝ} (i : Fin 4096) (hu : ∀ a, (u a : EReal) = ⊤) (hz : ∀ k, (z (ix2 i k) : EReal) = ⊤)
    (hy : ∀ k, y (ix2 i k) = BitVec.ofNat 32 k.val)
    (hD : ∀ j, D (ix2 i j) = (Real.sqrt (d j) : EReal)) (hd : ∀ j, 0 ≤ d j) (h : ∃ j, q (ix2 i j) = 1#1) :
    ∃ j : Fin 4096, seconds (Host.argReduce reducer_argmin_f32_i32 (select q D z) y u v reducesTo_S4096x4096_S4096_d1 h_S_) (ix1 i)
        = BitVec.ofNat 32 j.val ∧ (d j : EReal) = near (fun j => q (ix2 i j)) d := by
  have hx : ∀ k, (select q D z (ix2 i k) : EReal) = Scalar.select (q (ix2 i k)) (Real.sqrt (d k) : EReal) ⊤ := fun k => by
    show Scalar.select (q (ix2 i k)) (D (ix2 i k)) (z (ix2 i k)) = _
    rw [hD, hz]
  obtain ⟨j, hj, hle⟩ := argmin_at (select q D z) y u v i hu (h.imp fun k hk => by rw [hx, select_one hk]; exact EReal.coe_lt_top _)
  simp only [hx] at hle
  have hpj : q (ix2 i j) = 1#1 := by
    by_contra hn
    obtain ⟨k, hk⟩ := h
    have := hle k
    rw [select_one hk, select_ne hn] at this
    exact absurd this (not_le.2 (EReal.coe_lt_top _))
  rw [hy] at hj
  refine ⟨j, hj, (near_eq j hpj fun k hk => ?_).symm⟩
  have := hle k
  rw [select_one hk, select_one hpj, EReal.coe_le_coe_iff] at this
  exact (Real.sqrt_le_sqrt_iff (hd k)).1 this

/-- The position of the farthest positive, where there is one. -/
theorem refArgmax_at (p : IVec S4096x4096 1) {D : FVec Ideal S4096x4096 .f32} {d : Fin 4096 → ℝ} (i : Fin 4096)
    (hD : ∀ j, D (ix2 i j) = (Real.sqrt (d j) : EReal)) (hd : ∀ j, 0 ≤ d j) (h : ∃ j, p (ix2 i j) = 1#1) :
    ∃ j : Fin 4096, refArgmax p D (ix1 i) = BitVec.ofNat 32 j.val ∧ (d j : EReal) = far (fun j => p (ix2 i j)) d := by
  unfold refArgmax
  exact argmax_mask p D _ _ _ _ i (fun a => ofBits_bot) (fun k => fill_at _ i k (ofBits_bot)) (iota_at i) hD hd h

/-- The position of the nearest negative, where there is one. -/
theorem refArgmin_at (q : IVec S4096x4096 1) {D : FVec Ideal S4096x4096 .f32} {d : Fin 4096 → ℝ} (i : Fin 4096)
    (hD : ∀ j, D (ix2 i j) = (Real.sqrt (d j) : EReal)) (hd : ∀ j, 0 ≤ d j) (h : ∃ j, q (ix2 i j) = 1#1) :
    ∃ j : Fin 4096, refArgmin q D (ix1 i) = BitVec.ofNat 32 j.val ∧ (d j : EReal) = near (fun j => q (ix2 i j)) d := by
  unfold refArgmin
  exact argmin_mask q D _ _ _ _ i (fun a => ofBits_top) (fun k => fill_at _ i k (ofBits_top)) (iota_at i) hD hd h

end Cert.ReferenceIdeal.Hand

end
-- ==== Proof.RefValue.lean ====
/-
  The value of the reference over the reals at finite embeddings: the loss of Math.lean, at the reference's masks and
  the squared distances of the rows.
-/
module

public import proofs.«01_k».proof.Proof.RefRun
public import proofs.«01_k».proof.Proof.RefArg
public import proofs.«01_k».proof.Proof.Math
public import Idealize.ShloMosaic.Lib.Pointwise
public import Idealize.ShloMosaic.Lib.Routing.Ops
public import Idealize.ShloMosaic.Lib.Routing.OpsOrder

@[expose] public section

set_option maxRecDepth 16384

noncomputable section

namespace Cert.ReferenceIdeal.Hand

open Cert.ReferenceIdeal Cert.ReferenceIdeal.Gen Cert.Triplet
open Idealize.ShloMosaic Idealize.ShloMosaic.TcCoe Idealize.ShloMosaic.Tactic Idealize.ShloMosaic.Routing

/-- The reference's distance of two rows is the root of their squared distance. -/
theorem refD_at {x : FVec Ideal S4096x128 .f32} {r : Fin 4096 → Fin 128 → ℝ} (hx : ∀ i k, x (ix2 i k) = (r i k : EReal))
    (i j : Fin 4096) : refD x (ix2 i j) = (Real.sqrt (dist2 r i j) : EReal) := by
  pointwise [refD]
  simp only [hx]
  rw [ofBits_two, gram, max_eq_right (EReal.coe_nonneg.2 (dist2_nonneg r i j)), sqrt_coe (dist2_nonneg r i j)]

/-- A row is valid when both masks hold somewhere in it. -/
theorem refValid_at (l s : IVec S4096 32) (i : Fin 4096) :
    refValid l s (ix1 i) = 1#1 ↔ Valid (fun j => refPos l s (ix2 i j)) (fun j => refNeg l s (ix2 i j)) := by
  pointwise [refValid]
  have hand : ∀ a b : BitVec 1, IntOp.andi a b = 1#1 ↔ a = 1#1 ∧ b = 1#1 := by decide
  rw [hand, fold_ori, fold_ori]
  simp only [Finset.mem_univ, true_and, Valid]

/-! ## The rows taken and their distances -/

/-- A row number as a word, read signed. -/
theorem toInt_row (j : Fin 4096) : (BitVec.ofNat 32 j.val).toInt = j.val := by
  have := j.isLt
  have e : (BitVec.ofNat 32 j.val).toNat = j.val := by rw [BitVec.toNat_ofNat, Nat.mod_eq_of_lt (by omega)]
  rw [BitVec.toInt_eq_toNat_of_lt (by rw [e]; omega), e]

/-- A take at a position inside the array gives the row at that position. -/
theorem refTake_at (x : FVec Ideal S4096x128 .f32) (t : IVec S4096 32) (i j : Fin 4096) (k : Fin 128)
    (h : t (ix1 i) = BitVec.ofNat 32 j.val) : refTake x t (ix2 i k) = x (ix2 j k) := by
  have hj : j.val < 4096 := j.isLt
  have hidx : refIdx t (ix2 i 0) = BitVec.ofNat 32 j.val := by
    pointwise [refIdx]
    rw [h]
    refine select_ne ?_ _ _
    simp only [IntOp.cmpi, BitVec.slt, toInt_row]
    rw [decide_eq_false (by rw [show (0#32).toInt = 0 from rfl]; omega)]
    decide
  have hone : ∀ y : Fin 1, refIdx t (ix2 i y) = BitVec.ofNat 32 j.val := fun y => by rw [Subsingleton.elim y 0]; exact hidx
  pointwise [refTake]
  rw [select_one]
  · exact gather_row gather_S4096x128_S4096x1_S4096x128_1_0_n_n_0_1_1128 rfl rfl rfl rfl rfl x (refIdx t) i k j hidx (by decide)
  simp only [hone]
  have h1 : (0#32).toInt ≤ (BitVec.ofNat 32 j.val).toInt := by rw [toInt_row]; exact Int.natCast_nonneg _
  have h2 : (BitVec.ofNat 32 j.val).toInt ≤ (4095#32).toInt := by
    rw [toInt_row, show (4095#32).toInt = 4095 from rfl]; omega
  simp only [IntOp.cmpi, BitVec.sle, h1, h2, Finset.univ_unique, Finset.fold_singleton, decide_true]
  decide

/-- The norm of a difference of rows is the root of their squared distance. -/
theorem refNorm_at {x y : FVec Ideal S4096x128 .f32} {r : Fin 4096 → Fin 128 → ℝ} (hx : ∀ i k, x (ix2 i k) = (r i k : EReal))
    (i j : Fin 4096) (hy : ∀ k, y (ix2 i k) = x (ix2 j k)) : refNorm x y (ix1 i) = Ideal.sqrt (dist2 r i j : EReal) := by
  pointwise [refNorm]
  simp only [hy, hx]
  rw [sum_sub_sq]

/-- The reference's result at finite embeddings: the loss. -/
theorem refOut_at {x : FVec Ideal S4096x128 .f32} {r : Fin 4096 → Fin 128 → ℝ} (hx : ∀ i k, x (ix2 i k) = (r i k : EReal))
    (l s : IVec S4096 32) :
    refOut x l s ix0 = loss (fun i j => refPos l s (ix2 i j)) (fun i j => refNeg l s (ix2 i j)) (dist2 r)
      (Ideal.ofBits .f32 1061997773#32) := by
  unfold refOut
  pointwise [refLoss]
  unfold loss
  refine congrArg₂ Ideal.div (Finset.sum_congr rfl fun i _ => ?_) (congrArg (fun a => max a 1) (Finset.sum_congr rfl fun i _ => ?_))
  · unfold hinge
    by_cases hv : refValid l s (ix1 i) = 1#1
    · have hval := (refValid_at l s i).1 hv
      rw [select_one hv, if_pos hval]
      obtain ⟨j, hj, hfar⟩ := refArgmax_at (refPos l s) i (fun j => refD_at hx i j) (fun j => dist2_nonneg r i j) hval.1
      obtain ⟨j', hj', hnear⟩ := refArgmin_at (refNeg l s) i (fun j => refD_at hx i j) (fun j => dist2_nonneg r i j) hval.2
      rw [refNorm_at hx i j fun k => refTake_at x _ i j k hj, refNorm_at hx i j' fun k => refTake_at x _ i j' k hj', hfar, hnear]
    · rw [select_ne hv, if_neg (fun h => hv ((refValid_at l s i).2 h))]
  · unfold tally
    by_cases hv : refValid l s (ix1 i) = 1#1
    · rw [if_pos ((refValid_at l s i).1 hv), hv]
      show (((1#1 : BitVec 1).toNat : ℝ) : EReal) = 1
      simp
    · rw [if_neg (fun h => hv ((refValid_at l s i).2 h)), (BitVec.eq_zero_or_eq_one _).resolve_right hv]
      show (((0#1 : BitVec 1).toNat : ℝ) : EReal) = 0
      simp

end Cert.ReferenceIdeal.Hand

end
-- ==== Proof.Pre.lean ====
/-
  What the precondition says: finite embeddings, labels in [0, 8), subjects in [0, 32).
-/
module

public import proofs.«01_k».proof.Pre_drawn
public import proofs.«01_k».proof.Proof.Gen.Pre_drawn
public import proofs.«01_k».proof.Proof.Math
public import Idealize.ShloMosaic.Lib.Pointwise

@[expose] public section

set_option maxRecDepth 16384

noncomputable section

namespace Cert.Pre_drawn.Hand

open Cert.Triplet
open Idealize.ShloMosaic Idealize.ShloMosaic.TcCoe Idealize.ShloMosaic.Tactic

theorem and_bit : ∀ a b : BitVec 1, IntOp.andi a b = 1#1 ↔ a = 1#1 ∧ b = 1#1 := by decide

theorem all_of_set {ι : Type} [DecidableEq ι] (S : Finset ι) (f : ι → BitVec 1) (h : Finset.fold IntOp.andi 1#1 f S = 1#1) : ∀ i ∈ S, f i = 1#1 := by
  induction S using Finset.induction_on with
  | empty => intro i hi; exact absurd hi (Finset.notMem_empty i)
  | insert a S ha ih =>
    rw [Finset.fold_insert ha, and_bit] at h
    intro i hi
    rcases Finset.mem_insert.1 hi with rfl | hi
    · exact h.1
    · exact ih h.2 i hi

/-- A conjunction over a finite type holds at each of its members. -/
theorem all_bits {ι : Type} [DecidableEq ι] {F : Fintype ι} {f : ι → BitVec 1} (h : Finset.fold IntOp.andi 1#1 f Finset.univ = 1#1) (i : ι) : f i = 1#1 :=
  all_of_set _ f h i (Finset.mem_univ i)

theorem of_bool (p : Prop) [Decidable p] : BitVec.ofBool (decide p) = 1#1 ↔ p := by
  by_cases h : p <;> simp [h]

/-- A word between 0 and a small bound. -/
theorem word_lt (w : BitVec 32) (n : BitVec 32) (hn : n.toNat < 2 ^ 31) (h0 : IntOp.cmpi .sge w 0#32 = 1#1) (h1 : IntOp.cmpi .slt w n = 1#1) :
    w.toNat < n.toNat := by
  have e0 : (0#32 : BitVec 32).toInt ≤ w.toInt := by simpa only [IntOp.cmpi, BitVec.sle, of_bool] using h0
  have e1 : w.toInt < n.toInt := by simpa only [IntOp.cmpi, BitVec.slt, of_bool] using h1
  have e2 : n.toInt = n.toNat := BitVec.toInt_eq_toNat_of_lt (by omega)
  have e3 : (0#32 : BitVec 32).toInt = 0 := by decide
  rw [e3] at e0
  rw [e2] at e1
  rw [BitVec.toInt_eq_toNat_cond] at e0 e1
  have := w.isLt
  split at e0 <;> omega

/-- The precondition, spelt out. -/
theorem spelt (x : FVec Ideal S4096x128 .f32) (l s : IVec S4096 32) (h : Cert.Pre_drawn.fn (F := Ideal) x l s = fun _ => 1#1) :
    (∃ r : Fin 4096 → Fin 128 → ℝ, ∀ i k, x (ix2 i k) = (r i k : EReal))
      ∧ (∀ i, (l (ix1 i)).toNat < 8) ∧ (∀ i, (s (ix1 i)).toNat < 32) := by
  have h := congrFun h ix0
  simp only [Cert.Pre_drawn.fn, Cert.Pre_drawn.fn_part1] at h
  pointwise at h
  rw [and_bit, and_bit] at h
  obtain ⟨⟨h1, h2⟩, h3⟩ := h
  refine ⟨?_, fun i => ?_, fun i => ?_⟩
  · have hf : ∀ p : Fin 4096 × Fin 128, ⊥ < (x (ix2 p.1 p.2) : EReal) ∧ (x (ix2 p.1 p.2) : EReal) < ⊤ := fun p => by
      have e := all_bits h1 p
      rw [and_bit, of_bool, of_bool, ofBits_bot, ofBits_top] at e
      exact e
    obtain ⟨r, hr⟩ := exists_real hf
    exact ⟨fun i k => r (i, k), fun i k => hr (i, k)⟩
  · have e := all_bits h2 i
    rw [and_bit] at e
    exact word_lt _ 8#32 (by decide) e.1 e.2
  · have e := all_bits h3 i
    rw [and_bit] at e
    exact word_lt _ 32#32 (by decide) e.1 e.2

end Cert.Pre_drawn.Hand

end
-- ==== Proof.Margin.lean ====
/-
  How far the loss moves when a small constant is added to every difference of two embeddings: the norm of a row, the
  hinge of a row, and the mean of the hinges.
-/
module

public import proofs.«01_k».proof.Proof.Math
public import Mathlib.Analysis.InnerProductSpace.PiL2

@[expose] public section

noncomputable section

namespace Cert.Triplet

open Idealize.ShloMosaic

/-- The squared distance of two rows with a constant added to every difference. -/
def shifted {n d : Nat} (x : Fin n → Fin d → ℝ) (e : ℝ) (i j : Fin n) : ℝ := ∑ k, (x i k - x j k + e) * (x i k - x j k + e)

theorem shifted_nonneg {n d : Nat} (x : Fin n → Fin d → ℝ) (e : ℝ) (i j : Fin n) : 0 ≤ shifted x e i j :=
  Finset.sum_nonneg fun k _ => mul_self_nonneg _

/-- The sum of the shifted squares, in the extended reals. -/
theorem sum_shift_sq {n d : Nat} (x : Fin n → Fin d → ℝ) (e : ℝ) (i j : Fin n) :
    (∑ k, ((x i k : EReal) - (x j k : EReal) + (e : EReal)) * ((x i k : EReal) - (x j k : EReal) + (e : EReal)))
      = (shifted x e i j : EReal) := by
  rw [shifted, coe_sum]
  refine Finset.sum_congr rfl fun k _ => ?_
  rw [EReal.coe_mul, EReal.coe_add, EReal.coe_sub]

/-- The root of a sum of squares moves by at most twelve times the constant added to its 128 terms. -/
theorem root_shift (u : Fin 128 → ℝ) {e : ℝ} (he : 0 ≤ e) :
    |Real.sqrt (∑ k, u k * u k) - Real.sqrt (∑ k, (u k + e) * (u k + e))| ≤ 12 * e := by
  have hn : ∀ v : Fin 128 → ℝ, Real.sqrt (∑ k, v k * v k) = ‖(WithLp.toLp 2 v : EuclideanSpace ℝ (Fin 128))‖ := fun v => by
    rw [EuclideanSpace.norm_eq]
    congr 1
    refine Finset.sum_congr rfl fun k _ => ?_
    rw [Real.norm_eq_abs, sq_abs, pow_two]
  rw [hn, hn]
  refine (abs_norm_sub_norm_le _ _).trans ?_
  rw [← WithLp.toLp_sub, ← hn]
  have hs : (∑ k : Fin 128, (u - fun k => u k + e) k * (u - fun k => u k + e) k) = 128 * (e * e) := by
    have : ∀ k : Fin 128, (u - fun k => u k + e) k * (u - fun k => u k + e) k = e * e := fun k => by
      rw [Pi.sub_apply]; ring
    rw [Finset.sum_congr rfl fun k _ => this k, Finset.sum_const, Finset.card_univ, Fintype.card_fin, nsmul_eq_mul]
    norm_num
  rw [hs]
  refine Real.sqrt_le_iff.2 ⟨by positivity, ?_⟩
  nlinarith [mul_nonneg he he]

/-- The norm of a difference of rows moves by at most twelve times the constant. -/
theorem dist_shift {n : Nat} (x : Fin n → Fin 128 → ℝ) {e : ℝ} (he : 0 ≤ e) (i j : Fin n) :
    |Real.sqrt (dist2 x i j) - Real.sqrt (shifted x e i j)| ≤ 12 * e :=
  root_shift (fun k => x i k - x j k) he

/-- The cut-off difference moves by at most what its two distances move by together. -/
theorem cut_shift {a b a' b' m c : ℝ} (ha : |a - a'| ≤ c) (hb : |b - b'| ≤ c) :
    |max (a - b + m) 0 - max (a' - b' + m) 0| ≤ 2 * c := by
  refine (abs_max_sub_max_le_abs _ _ _).trans ?_
  rw [abs_le] at ha hb ⊢
  constructor <;> linarith [ha.1, ha.2, hb.1, hb.2]

/-- Two means over the same rows differ by at most what the entries of the rows that count differ by. -/
theorem mean_shift {n : Nat} (a b t : Fin n → ℝ) {c : ℝ} (hc : 0 ≤ c) (h : ∀ i, |a i - b i| ≤ c * t i) :
    |(∑ i, a i) * (max (∑ i, t i) 1)⁻¹ - (∑ i, b i) * (max (∑ i, t i) 1)⁻¹| ≤ c := by
  have hpos : 0 < max (∑ i, t i) 1 := lt_max_of_lt_right one_pos
  rw [← sub_mul, ← Finset.sum_sub_distrib, abs_mul, abs_of_pos (inv_pos.2 hpos), ← div_eq_mul_inv, div_le_iff₀ hpos]
  refine (Finset.abs_sum_le_sum_abs _ _).trans ((Finset.sum_le_sum fun i _ => h i).trans ?_)
  rw [← Finset.mul_sum]
  exact mul_le_mul_of_nonneg_left (le_max_left _ _) hc

/-- The coercion of the reals into the extended reals goes through a maximum. -/
theorem coe_max (a b : ℝ) : ((max a b : ℝ) : EReal) = max (a : EReal) (b : EReal) := EReal.coe_strictMono.monotone.map_max

/-- The quotient of a real by a real that is at least one. -/
theorem div_coe (a t : ℝ) : Ideal.div (a : EReal) (max (t : EReal) 1) = ((a * (max t 1)⁻¹ : ℝ) : EReal) := by
  have hpos : 0 < max t 1 := lt_max_of_lt_right one_pos
  have hm : max (t : EReal) 1 = ((max t 1 : ℝ) : EReal) := by rw [coe_max, EReal.coe_one]
  rw [hm, Ideal.div, if_neg (by rw [← EReal.coe_zero, EReal.coe_eq_coe_iff]; exact hpos.ne'), EReal.coe_mul, EReal.coe_inv]

/-- The distance of two quotients of that kind, in the extended reals, is below a bound. -/
theorem mean_close {n : Nat} (a b t : Fin n → ℝ) {c δ : ℝ} (hc : 0 ≤ c) (hδ : c ≤ δ) (h : ∀ i, |a i - b i| ≤ c * t i) :
    max (Ideal.div (∑ i, (a i : EReal)) (max (∑ i, (t i : EReal)) 1) - Ideal.div (∑ i, (b i : EReal)) (max (∑ i, (t i : EReal)) 1))
      (-(Ideal.div (∑ i, (a i : EReal)) (max (∑ i, (t i : EReal)) 1) - Ideal.div (∑ i, (b i : EReal)) (max (∑ i, (t i : EReal)) 1)))
      ≤ (δ : EReal) := by
  rw [← coe_sum, ← coe_sum, ← coe_sum, div_coe, div_coe, ← EReal.coe_sub, ← EReal.coe_neg, ← coe_max, EReal.coe_le_coe_iff]
  exact (mean_shift a b t hc h).trans hδ

/-! ## The constants -/

/-- The margin is a real number. -/
theorem ofBits_margin : ∃ m : ℝ, Ideal.ofBits .f32 1061997773#32 = (m : EReal) :=
  ⟨_, by simp [Ideal.ofBits, Ideal.ieee, -EReal.coe_mul]; rfl⟩

/-- The constant added to a difference. -/
def eps : ℝ := 8796093 / 2 ^ 43

theorem eps_nonneg : 0 ≤ eps := by unfold eps; positivity

theorem ofBits_eps : Ideal.ofBits .f32 897988541#32 = (eps : EReal) := by
  simp [Ideal.ofBits, Ideal.ieee, eps, -EReal.coe_mul]; norm_num

/-- The bound of the claim. -/
def bound : ℝ := 16492674 / 2 ^ 39

theorem eps_bound : 24 * eps ≤ bound := by unfold eps bound; norm_num

theorem ofBits_bound : Ideal.ofBits .f32 939239554#32 = (bound : EReal) := by
  simp [Ideal.ofBits, Ideal.ieee, bound, -EReal.coe_mul]; norm_num

end Cert.Triplet

end
-- ==== Proof.Near.lean ====
/-
  The condition on the kernel's result: the loss is within the bound of the one whose differences of embeddings have the
  constant added to them. The function that states it, in the parts of RefRun.lean, and its value at the loss of Math.lean.
-/
module

public import proofs.«01_k».proof.Post_near
public import proofs.«01_k».proof.Proof.RefValue
public import proofs.«01_k».proof.Proof.Margin

@[expose] public section

set_option maxRecDepth 16384

noncomputable section

namespace Cert.Post_near.Hand

open Cert.Triplet Cert.ReferenceIdeal.Hand
open Idealize.ShloMosaic Idealize.ShloMosaic.TcCoe Idealize.ShloMosaic.Tactic Idealize.ShloMosaic.Routing

/-! ## The function's side conditions -/

theorem reducesTo_S4096x128_S4096_d1 : S4096x128.ReducesTo [1] S4096 := by decide
theorem h_S_ : 0 < S_.numel := by decide
theorem bcast_S4096_S4096x1_0 : S4096.BroadcastsInDim S4096x1 (![0] : Fin 1 → Fin S4096x1.rank) := by decide
theorem bcast_S4096_S1x4096_1 : S4096.BroadcastsInDim S1x4096 (![1] : Fin 1 → Fin S1x4096.rank) := by decide
theorem bcast_S4096x1_S4096x4096_0_1 : S4096x1.BroadcastsInDim S4096x4096 (![0, 1] : Fin 2 → Fin S4096x4096.rank) := by decide
theorem bcast_S1x4096_S4096x4096_0_1 : S1x4096.BroadcastsInDim S4096x4096 (![0, 1] : Fin 2 → Fin S4096x4096.rank) := by decide
theorem transposes_S4096x128_S128x4096_1_0 : S4096x128.Transposes [1, 0] S128x4096 := by decide
theorem bcast_S_S4096x4096 : S_.BroadcastsInDim S4096x4096 (![] : Fin 0 → Fin S4096x4096.rank) := by decide
theorem reducesTo_S4096x4096_S4096_d1 : S4096x4096.ReducesTo [1] S4096 := by decide
theorem bcast_S_S4096 : S_.BroadcastsInDim S4096 (![] : Fin 0 → Fin S4096.rank) := by decide
theorem bcast_S_S4096x1 : S_.BroadcastsInDim S4096x1 (![] : Fin 0 → Fin S4096x1.rank) := by decide
theorem bcast_S1_S1x1_1 : S1.BroadcastsInDim S1x1 (![1] : Fin 1 → Fin S1x1.rank) := by decide
theorem bcast_S1x1_S4096x1_0_1 : S1x1.BroadcastsInDim S4096x1 (![0, 1] : Fin 2 → Fin S4096x1.rank) := by decide
theorem reducesTo_S4096x1_S4096_d1 : S4096x1.ReducesTo [1] S4096 := by decide
theorem bcast_S4096_S4096x128_0 : S4096.BroadcastsInDim S4096x128 (![0] : Fin 1 → Fin S4096x128.rank) := by decide
theorem bcast_S_S4096x128 : S_.BroadcastsInDim S4096x128 (![] : Fin 0 → Fin S4096x128.rank) := by decide
theorem reducesTo_S4096_S_d0 : S4096.ReducesTo [0] S_ := by decide
theorem dot_wf : DotDims.WF S4096x128 S128x4096 S4096x4096 [1] [0] [0] [1] [] [] := by decide
theorem gather_wf : GatherDims.WF S4096x128 S4096x1 S4096x128 [1] [0] [] [0] [] 1 ![1, 128] := by decide

/-- The side conditions, proved. -/
instance facts : Cert.Post_near.Facts where
  reducesTo_S4096x128_S4096_d1 := @reducesTo_S4096x128_S4096_d1
  h_S_ := @h_S_
  bcast_S4096_S4096x1_0 := @bcast_S4096_S4096x1_0
  bcast_S4096_S1x4096_1 := @bcast_S4096_S1x4096_1
  bcast_S4096x1_S4096x4096_0_1 := @bcast_S4096x1_S4096x4096_0_1
  bcast_S1x4096_S4096x4096_0_1 := @bcast_S1x4096_S4096x4096_0_1
  transposes_S4096x128_S128x4096_1_0 := @transposes_S4096x128_S128x4096_1_0
  bcast_S_S4096x4096 := @bcast_S_S4096x4096
  reducesTo_S4096x4096_S4096_d1 := @reducesTo_S4096x4096_S4096_d1
  bcast_S_S4096 := @bcast_S_S4096
  bcast_S_S4096x1 := @bcast_S_S4096x1
  bcast_S1_S1x1_1 := @bcast_S1_S1x1_1
  bcast_S1x1_S4096x1_0_1 := @bcast_S1x1_S4096x1_0_1
  reducesTo_S4096x1_S4096_d1 := @reducesTo_S4096x1_S4096_d1
  bcast_S4096_S4096x128_0 := @bcast_S4096_S4096x128_0
  bcast_S_S4096x128 := @bcast_S_S4096x128
  reducesTo_S4096_S_d0 := @reducesTo_S4096_S_d0
  dot_S4096x128_S128x4096_S4096x4096_1_0_0_1_n_n_wf := @dot_wf
  gather_S4096x128_S4096x1_S4096x128_1_0_n_n_0_1_1128_wf := @gather_wf

/-! ## The function in parts -/

/-- The norm of each row of a difference with the constant added to every entry. -/
def normE (x y : FVec Ideal S4096x128 .f32) : FVec Ideal S4096 .f32 :=
  Host.sqrt (Host.reduceAdd
    (mulf (addf (subf x y) (broadcastInDim S4096x128 ![] bcast_S_S4096x128 (constant S_ .f32 0x358637BD#32)))
      (addf (subf x y) (broadcastInDim S4096x128 ![] bcast_S_S4096x128 (constant S_ .f32 0x358637BD#32))))
    (constant S_ .f32 0x00000000#32) reducesTo_S4096x128_S4096_d1 h_S_)

/-- The loss with the constant added to the differences. -/
def full (x : FVec Ideal S4096x128 .f32) (l s : IVec S4096 32) : FVec Ideal S_ .f32 :=
  refLoss (refValid l s) (normE x (refTake x (refArgmax (refPos l s) (refD x))))
    (normE x (refTake x (refArgmin (refNeg l s) (refD x))))

/-- Whether two numbers are within the bound of each other. -/
def within (z y : FVec Ideal S_ .f32) : IVec S_ 1 := cmpf .ole (Host.absf (subf z y)) (constant S_ .f32 0x37FBA882#32)

theorem argmax_eq (p : IVec S4096x4096 1) (d : FVec Ideal S4096x4096 .f32) :
    fn_argmax (fn_where (F := Ideal) p d (constant S_ .f32 0xFF800000#32)) = refArgmax p d := rfl

theorem argmin_eq (p : IVec S4096x4096 1) (d : FVec Ideal S4096x4096 .f32) :
    fn_argmin (fn_where (F := Ideal) p d (constant S_ .f32 0x7F800000#32)) = refArgmin p d := rfl

theorem take_eq (x : FVec Ideal S4096x128 .f32) (i : IVec S4096 32) : fn_take x i = refTake x i := rfl

theorem part3_eq (z : FVec Ideal S_ .f32) (v : IVec S4096 1) (dp dn : FVec Ideal S4096 .f32) :
    fn_part3 z v
      (maximumf (addf (subf dp dn) (broadcastInDim S4096 ![] bcast_S_S4096 (constant S_ .f32 0x3F4CCCCD#32)))
        (broadcastInDim S4096 ![] bcast_S_S4096 (constant S_ .f32 0x00000000#32)))
      (Host.reduceAdd (uitofp .f32 v) (constant S_ .f32 0x00000000#32) reducesTo_S4096_S_d0 h_S_)
      (constant S_ .f32 0x00000000#32) = within z (refLoss v dp dn) := rfl

theorem part2_eq (x : FVec Ideal S4096x128 .f32) (z : FVec Ideal S_ .f32) (v : IVec S4096 1) (i : IVec S4096 32) (p : IVec S4096x4096 1)
    (d : FVec Ideal S4096x4096 .f32) :
    fn_part2 x z v i (fn_where (F := Ideal) p d (constant S_ .f32 0x7F800000#32))
      = within z (refLoss v (normE x (refTake x i)) (normE x (refTake x (refArgmin p d)))) := by
  rw [← part3_eq, ← argmin_eq, ← take_eq, ← take_eq]
  rfl

theorem fn_eq (x : FVec Ideal S4096x128 .f32) (l s : IVec S4096 32) (z : FVec Ideal S_ .f32) :
    Cert.Post_near.fn (F := Ideal) x l s z = within z (full x l s) := by
  unfold full
  rw [← part2_eq, ← argmax_eq]
  rfl

/-! ## Its value -/

/-- The shifted norm of a difference of rows is the root of the shifted squared distance. -/
theorem normE_at {x y : FVec Ideal S4096x128 .f32} {r : Fin 4096 → Fin 128 → ℝ} (hx : ∀ i k, x (ix2 i k) = (r i k : EReal))
    (i j : Fin 4096) (hy : ∀ k, y (ix2 i k) = x (ix2 j k)) : normE x y (ix1 i) = (Real.sqrt (shifted r eps i j) : EReal) := by
  pointwise [normE]
  simp only [hy, hx]
  rw [ofBits_eps, sum_shift_sq, sqrt_coe (shifted_nonneg r eps i j)]

/-- A valid row: its hinge, and its hinge with the constant added, are reals that are close. -/
theorem row_near {x : FVec Ideal S4096x128 .f32} {r : Fin 4096 → Fin 128 → ℝ} (hx : ∀ i k, x (ix2 i k) = (r i k : EReal))
    (l s : IVec S4096 32) (m : ℝ) (i : Fin 4096) (hval : Valid (fun j => refPos l s (ix2 i j)) (fun j => refNeg l s (ix2 i j))) :
    ∃ a b : ℝ, hinge (fun j => refPos l s (ix2 i j)) (fun j => refNeg l s (ix2 i j)) (dist2 r i) (m : EReal) = (a : EReal)
      ∧ max (normE x (refTake x (refArgmax (refPos l s) (refD x))) (ix1 i)
          - normE x (refTake x (refArgmin (refNeg l s) (refD x))) (ix1 i) + (m : EReal)) 0 = (b : EReal)
      ∧ |a - b| ≤ 24 * eps := by
  obtain ⟨j, hj, hfar⟩ := refArgmax_at (refPos l s) i (fun j => refD_at hx i j) (fun j => dist2_nonneg r i j) hval.1
  obtain ⟨j', hj', hnear⟩ := refArgmin_at (refNeg l s) i (fun j => refD_at hx i j) (fun j => dist2_nonneg r i j) hval.2
  refine ⟨max (Real.sqrt (dist2 r i j) - Real.sqrt (dist2 r i j') + m) 0,
    max (Real.sqrt (shifted r eps i j) - Real.sqrt (shifted r eps i j') + m) 0, ?_, ?_, ?_⟩
  · rw [hinge, if_pos hval, ← hfar, ← hnear, sqrt_coe (dist2_nonneg r i j), sqrt_coe (dist2_nonneg r i j'), coe_max, EReal.coe_add,
      EReal.coe_sub, EReal.coe_zero]
  · rw [normE_at hx i j fun k => refTake_at x _ i j k hj, normE_at hx i j' fun k => refTake_at x _ i j' k hj', coe_max, EReal.coe_add,
      EReal.coe_sub, EReal.coe_zero]
  · have := cut_shift (m := m) (dist_shift r eps_nonneg i j) (dist_shift r eps_nonneg i j')
    linarith

/-- The hinges of a row, on one side the loss's, on the other the one with the constant added: close reals, both zero at a row that
    does not count. -/
theorem hinge_near {x : FVec Ideal S4096x128 .f32} {r : Fin 4096 → Fin 128 → ℝ} (hx : ∀ i k, x (ix2 i k) = (r i k : EReal))
    (l s : IVec S4096 32) (m : ℝ) (i : Fin 4096) :
    ∃ a b t : ℝ, hinge (fun j => refPos l s (ix2 i j)) (fun j => refNeg l s (ix2 i j)) (dist2 r i) (m : EReal) = (a : EReal)
      ∧ Scalar.select (refValid l s (ix1 i)) (max (normE x (refTake x (refArgmax (refPos l s) (refD x))) (ix1 i)
          - normE x (refTake x (refArgmin (refNeg l s) (refD x))) (ix1 i) + (m : EReal)) 0) 0 = (b : EReal)
      ∧ tally (fun j => refPos l s (ix2 i j)) (fun j => refNeg l s (ix2 i j)) = (t : EReal)
      ∧ (((refValid l s (ix1 i)).toNat : ℝ) : EReal) = (t : EReal)
      ∧ |a - b| ≤ 24 * eps * t := by
  by_cases hv : refValid l s (ix1 i) = 1#1
  · have hval := (refValid_at l s i).1 hv
    obtain ⟨a, b, ha, hb, hab⟩ := row_near hx l s m i hval
    exact ⟨a, b, 1, ha, by rw [select_one hv, hb], by rw [tally, if_pos hval, EReal.coe_one], by rw [hv]; simp, by rw [mul_one]; exact hab⟩
  · have hval : ¬ Valid (fun j => refPos l s (ix2 i j)) (fun j => refNeg l s (ix2 i j)) := fun h => hv ((refValid_at l s i).2 h)
    exact ⟨0, 0, 0, by rw [hinge, if_neg hval, EReal.coe_zero], by rw [select_ne hv, EReal.coe_zero],
      by rw [tally, if_neg hval, EReal.coe_zero], by rw [(BitVec.eq_zero_or_eq_one _).resolve_right hv]; simp, by simp⟩

/-- The loss is within the bound of the one with the constant added to the differences. -/
theorem near_at {x : FVec Ideal S4096x128 .f32} {r : Fin 4096 → Fin 128 → ℝ} (hx : ∀ i k, x (ix2 i k) = (r i k : EReal))
    (l s : IVec S4096 32) (z : FVec Ideal S_ .f32)
    (hz : z ix0 = loss (fun i j => refPos l s (ix2 i j)) (fun i j => refNeg l s (ix2 i j)) (dist2 r) (Ideal.ofBits .f32 1061997773#32)) :
    Cert.Post_near.fn (F := Ideal) x l s z = fun _ => 1#1 := by
  rw [fn_eq]
  funext q
  obtain rfl : q = ix0 := Subsingleton.elim _ _
  unfold full
  pointwise [within, refLoss]
  obtain ⟨m, hm⟩ := ofBits_margin
  rw [hz, hm, loss]
  choose a b t ha hb ht ht' hab using hinge_near hx l s m
  have hu : ∀ i, (FloatOps.uitofp (F := Ideal) FTy.f32 (refValid l s (ix1 i)) : EReal) = (t i : EReal) := ht'
  rw [Ideal.absf_def, Finset.sum_congr rfl fun i _ => ha i, Finset.sum_congr rfl fun i _ => hb i, Finset.sum_congr rfl fun i _ => ht i,
    Finset.sum_congr rfl fun i _ => hu i, ofBits_bound, decide_eq_true (mean_close a b t (mul_nonneg (by norm_num) eps_nonneg) eps_bound hab)]
  rfl

end Cert.Post_near.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.KRun
public import proofs.«01_k».proof.Proof.RefValue
public import proofs.«01_k».proof.Proof.Pre
public import proofs.«01_k».proof.Proof.Near
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_drawn.Gen.facts
  Cert.Post_near.Hand.facts

/-- The printed kernel runs, leaves its arguments as they were and every semaphore at zero. -/
theorem quiescent_Kernel : Cert.quiescent_Kernel := fun m ρ _ => Cert.Kernel.Gen.frame m ρ

/-- The same of the kernel over the reals. -/
theorem quiescent_KernelIdeal : Cert.quiescent_KernelIdeal := fun m ρ _ => Cert.KernelIdeal.Gen.frame m ρ

/-- The same from the arguments that the precondition admits. -/
theorem quiescent_KernelIdeal_pre_drawn : Cert.quiescent_KernelIdeal_pre_drawn := fun m ρ _ => Cert.KernelIdeal.Gen.frame m ρ

/-- The reference over the reals runs, leaves its arguments as they were and every semaphore at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hand.run m ρ)

/-- The same from the arguments that the precondition admits. -/
theorem quiescent_ReferenceIdeal_pre_drawn : Cert.quiescent_ReferenceIdeal_pre_drawn := fun m ρ _ =>
  (θ_run Cert.ReferenceIdeal.defs _ _).mono (fun r h => ⟨fun c => (h c).2, sem_eq_zero_of_no_sems (by decide) r.2⟩)
    (Cert.ReferenceIdeal.Hand.run m ρ)

/-- The named constants stand for the values given to them. -/
theorem preserves : Cert.preserves_Kernel_KernelIdeal := by
  refine ⟨?_, ?_, ?_, ?_⟩ <;>
    refine ⟨rfl, fun _ => IdealRules.named_const.ideal_named _ _ _ _ ?_, IdealRules.named_const.ideal_named_scalar _ _ _ _ ?_⟩ <;> rfl

/-- From finite embeddings and keys in range the kernel over the reals ends within the bound of the loss with the constant added to the
    differences. -/
theorem holds_near : Cert.holds_KernelIdeal_near_pre_drawn := by
  intro m ρ hpre
  refine (θ_run Cert.KernelIdeal.defs _ _).mono (fun r h c => ⟨(h c).2.1, (h c).2.2.1, (h c).2.2.2, ?_⟩) (Cert.KernelIdeal.Hand.run m ρ)
  obtain ⟨⟨x, hx⟩, hl, hs⟩ := Cert.Pre_drawn.Hand.spelt _ _ _ (hpre c)
  exact Cert.Post_near.Hand.near_at hx _ _ _ ((congrFun (h c).1 ix0).trans (Cert.KernelIdeal.Hand.result_at m c hx hl hs))

/-- On equal finite embeddings and keys in range the kernel and the reference, over the reals, end with equal results. -/
theorem algebraic : Cert.algebraic_KernelIdeal_ReferenceIdeal_pre_drawn := by
  intro m ρ m' ρ' hpre hagree
  refine ⟨_, Cert.KernelIdeal.Hand.run m ρ, (θ_run Cert.ReferenceIdeal.defs _ _).mono (fun r h c => ⟨(h c).1.trans ?_, (h c).2⟩)
    (Cert.ReferenceIdeal.Hand.run m' ρ')⟩
  obtain ⟨⟨x, hx⟩, hl, hs⟩ := Cert.Pre_drawn.Hand.spelt _ _ _ (hpre c)
  rw [(hagree c).1, (hagree c).2.1, (hagree c).2.2]
  funext i
  obtain rfl : i = ix0 := Subsingleton.elim _ _
  rw [Cert.KernelIdeal.Hand.result_at m c hx hl hs]
  exact Cert.ReferenceIdeal.Hand.refOut_at hx _ _

theorem claim : Cert.Claim := ⟨Cert.Kernel.Gen.facts, Cert.KernelIdeal.Gen.facts, Cert.ReferenceIdeal.Gen.facts, Cert.Pre_drawn.Gen.facts,
  Cert.Post_near.Hand.facts,
  quiescent_Kernel, quiescent_KernelIdeal, quiescent_KernelIdeal_pre_drawn, quiescent_ReferenceIdeal, quiescent_ReferenceIdeal_pre_drawn,
  preserves, holds_near, algebraic⟩

end Cert.Proof

end
